-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S4x256x640 : Shape := ⟨3, ![4, 256, 640]⟩
abbrev S4x64x640 : Shape := ⟨3, ![4, 64, 640]⟩
abbrev S4x256x384 : Shape := ⟨3, ![4, 256, 384]⟩
abbrev S4x64x384 : Shape := ⟨3, ![4, 64, 384]⟩
abbrev S3 : Shape := ⟨1, ![3]⟩
abbrev S_ : Shape := ⟨0, ![]⟩
abbrev S256x640 : Shape := ⟨2, ![256, 640]⟩
abbrev S1x256x640 : Shape := ⟨3, ![1, 256, 640]⟩
abbrev S1 : Shape := ⟨1, ![1]⟩
abbrev S256x384 : Shape := ⟨2, ![256, 384]⟩
abbrev S1x256x384 : Shape := ⟨3, ![1, 256, 384]⟩
abbrev S64x640 : Shape := ⟨2, ![64, 640]⟩
abbrev S1x64x640 : Shape := ⟨3, ![1, 64, 640]⟩
abbrev S64x384 : Shape := ⟨2, ![64, 384]⟩
abbrev S1x64x384 : Shape := ⟨3, ![1, 64, 384]⟩

abbrev nBuf : Space → Nat
  | .hbm => 3
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S1024x1024, .f32⟩
  | .local _ .vmem, ⟨0, _⟩ => ⟨S1024x64, .f32⟩
  | .local _ .vmem, ⟨1, _⟩ => ⟨S64x1024, .f32⟩
  | .local _ .vmem, ⟨2, _⟩ => ⟨S1024x1024, .f32⟩
  | .local _ .vmem, ⟨3, _⟩ => ⟨S4x256x640, .f32⟩
  | .local _ .vmem, ⟨4, _⟩ => ⟨S4x64x640, .f32⟩
  | .local _ .vmem, ⟨5, _⟩ => ⟨S4x256x384, .f32⟩
  | .local _ .vmem, ⟨6, _⟩ => ⟨S4x64x384, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_14 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v22 : BitVec 32 := Scalar.muli c4_i32_6 v19
  let c4_i32_5 : BitVec 32 := 4#32
  let v20 : BitVec 32 := Scalar.remsi v2 c4_i32_5
  let c1_i32_7 : BitVec 32 := 1#32
  let v23 : BitVec 32 := Scalar.addi v20 c1_i32_7
  let c4_i32_8 : BitVec 32 := 4#32
  let v24 : BitVec 32 := Scalar.remsi v23 c4_i32_8
  let v25 : BitVec 32 := Scalar.addi v22 v24
  let c1_i32_13 : BitVec 32 := 1#32
  let v30 : BitVec 32 := Scalar.muli v25 c1_i32_13
  let v31 : BitVec 32 := Scalar.addi c0_i32_14 v30
  v31.toNat
def k0_dev2 (d0 : Dev nD) : Nat :=
  let c0_i32_17 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_9 : BitVec 32 := 1#32
  let v26 : BitVec 32 := Scalar.addi v19 c1_i32_9
  let c4_i32_10 : BitVec 32 := 4#32
  let v27 : BitVec 32 := Scalar.remsi v26 c4_i32_10
  let v28 : BitVec 32 := Scalar.muli c4_i32_11 v27
  let c4_i32_5 : BitVec 32 := 4#32
  let v20 : BitVec 32 := Scalar.remsi v2 c4_i32_5
  let v29 : BitVec 32 := Scalar.addi v28 v20
  let c1_i32_16 : BitVec 32 := 1#32
  let v32 : BitVec 32 := Scalar.muli v29 c1_i32_16
  let v33 : BitVec 32 := Scalar.addi c0_i32_17 v32
  v33.toNat
def k0_dev3 (d0 : Dev nD) : Nat :=
  let c0_i32_25 : BitVec 32 := 0#32
  let c4_i32_18 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_18 v19
  let c4_i32_5 : BitVec 32 := 4#32
  let v20 : BitVec 32 := Scalar.remsi v2 c4_i32_5
  let c2_i32 : BitVec 32 := 2#32
  let v35 : BitVec 32 := Scalar.addi v20 c2_i32
  let c4_i32_19 : BitVec 32 := 4#32
  let v36 : BitVec 32 := Scalar.remsi v35 c4_i32_19
  let v37 : BitVec 32 := Scalar.addi v34 v36
  let c1_i32_24 : BitVec 32 := 1#32
  let v42 : BitVec 32 := Scalar.muli v37 c1_i32_24
  let v43 : BitVec 32 := Scalar.addi c0_i32_25 v42
  v43.toNat
def k0_dev4 (d0 : Dev nD) : Nat :=
  let c0_i32_28 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v38 : BitVec 32 := Scalar.addi v19 c2_i32_20
  let c4_i32_21 : BitVec 32 := 4#32
  let v39 : BitVec 32 := Scalar.remsi v38 c4_i32_21
  let v40 : BitVec 32 := Scalar.muli c4_i32_22 v39
  let c4_i32_5 : BitVec 32 := 4#32
  let v20 : BitVec 32 := Scalar.remsi v2 c4_i32_5
  let v41 : BitVec 32 := Scalar.addi v40 v20
  let c1_i32_27 : BitVec 32 := 1#32
  let v44 : BitVec 32 := Scalar.muli v41 c1_i32_27
  let v45 : BitVec 32 := Scalar.addi c0_i32_28 v44
  v45.toNat
def k0_dev5 (d0 : Dev nD) : Nat :=
  let c0_i32_36 : BitVec 32 := 0#32
  let c4_i32_29 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v46 : BitVec 32 := Scalar.muli c4_i32_29 v19
  let c4_i32_5 : BitVec 32 := 4#32
  let v20 : BitVec 32 := Scalar.remsi v2 c4_i32_5
  let c3_i32 : BitVec 32 := 3#32
  let v47 : BitVec 32 := Scalar.addi v20 c3_i32
  let c4_i32_30 : BitVec 32 := 4#32
  let v48 : BitVec 32 := Scalar.remsi v47 c4_i32_30
  let v49 : BitVec 32 := Scalar.addi v46 v48
  let c1_i32_35 : BitVec 32 := 1#32
  let v54 : BitVec 32 := Scalar.muli v49 c1_i32_35
  let v55 : BitVec 32 := Scalar.addi c0_i32_36 v54
  v55.toNat
def k0_dev6 (d0 : Dev nD) : Nat :=
  let c0_i32_39 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_31 : BitVec 32 := 3#32
  let v50 : BitVec 32 := Scalar.addi v19 c3_i32_31
  let c4_i32_32 : BitVec 32 := 4#32
  let v51 : BitVec 32 := Scalar.remsi v50 c4_i32_32
  let v52 : BitVec 32 := Scalar.muli c4_i32_33 v51
  let c4_i32_5 : BitVec 32 := 4#32
  let v20 : BitVec 32 := Scalar.remsi v2 c4_i32_5
  let v53 : BitVec 32 := Scalar.addi v52 v20
  let c1_i32_38 : BitVec 32 := 1#32
  let v56 : BitVec 32 := Scalar.muli v53 c1_i32_38
  let v57 : BitVec 32 := Scalar.addi c0_i32_39 v56
  v57.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32 : BitVec 32 := 256#32
  let v100 : BitVec 32 := Scalar.muli v20 c256_i32
  let v101 : Index := Scalar.indexCast v100
  let c0_75 : Index := 0#32
  ![v101.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v105 : Index := Scalar.indexCast v20
  let c0_76 : Index := 0#32
  let c0_77 : Index := 0#32
  ![v105.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_83 : BitVec 32 := 0#32
  let c0_i32_84 : BitVec 32 := 0#32
  ![v20.toNat, 0, 0]
def k0_off4 (d0 : Dev nD) (c1_i32_63 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v88 : BitVec 32 := Scalar.addi v20 c1_i32_63
  let c4_i32_64 : BitVec 32 := 4#32
  let v89 : BitVec 32 := Scalar.remsi v88 c4_i32_64
  let c256_i32_78 : BitVec 32 := 256#32
  let v109 : BitVec 32 := Scalar.muli v89 c256_i32_78
  let c0_i32_85 : BitVec 32 := 0#32
  ![v109.toNat, 0]
def k0_dev7 (d0 : Dev nD) : Nat :=
  let c0_i32_82 : BitVec 32 := 0#32
  let c4_i32_45 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_45 v19
  let c4_i32_5 : BitVec 32 := 4#32
  let v20 : BitVec 32 := Scalar.remsi v2 c4_i32_5
  let c1_i32_46 : BitVec 32 := 1#32
  let v65 : BitVec 32 := Scalar.addi v20 c1_i32_46
  let c4_i32_47 : BitVec 32 := 4#32
  let v66 : BitVec 32 := Scalar.remsi v65 c4_i32_47
  let v67 : BitVec 32 := Scalar.addi v64 v66
  let c1_i32_81 : BitVec 32 := 1#32
  let v110 : BitVec 32 := Scalar.muli v67 c1_i32_81
  let v111 : BitVec 32 := Scalar.addi c0_i32_82 v110
  v111.toNat
def k0_dev8 (d0 : Dev nD) : Nat :=
  let c0_i32_90 : BitVec 32 := 0#32
  let c4_i32_48 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_48 v19
  let c4_i32_5 : BitVec 32 := 4#32
  let v20 : BitVec 32 := Scalar.remsi v2 c4_i32_5
  let c2_i32_49 : BitVec 32 := 2#32
  let v69 : BitVec 32 := Scalar.addi v20 c2_i32_49
  let c4_i32_50 : BitVec 32 := 4#32
  let v70 : BitVec 32 := Scalar.remsi v69 c4_i32_50
  let v71 : BitVec 32 := Scalar.addi v68 v70
  let c1_i32_89 : BitVec 32 := 1#32
  let v120 : BitVec 32 := Scalar.muli v71 c1_i32_89
  let v121 : BitVec 32 := Scalar.addi c0_i32_90 v120
  v121.toNat
def k0_dev9 (d0 : Dev nD) : Nat :=
  let c0_i32_98 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_51 v19
  let c4_i32_5 : BitVec 32 := 4#32
  let v20 : BitVec 32 := Scalar.remsi v2 c4_i32_5
  let c3_i32_52 : BitVec 32 := 3#32
  let v73 : BitVec 32 := Scalar.addi v20 c3_i32_52
  let c4_i32_53 : BitVec 32 := 4#32
  let v74 : BitVec 32 := Scalar.remsi v73 c4_i32_53
  let v75 : BitVec 32 := Scalar.addi v72 v74
  let c1_i32_97 : BitVec 32 := 1#32
  let v130 : BitVec 32 := Scalar.muli v75 c1_i32_97
  let v131 : BitVec 32 := Scalar.addi c0_i32_98 v130
  v131.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_102 : BitVec 32 := 256#32
  let v139 : BitVec 32 := Scalar.muli v19 c256_i32_102
  let v140 : Index := Scalar.indexCast v139
  let c640 : Index := 640#32
  ![v140.toNat, 640]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : Index := Scalar.indexCast v19
  let c0_103 : Index := 0#32
  let c0_104 : Index := 0#32
  ![v144.toNat, 0, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_110 : BitVec 32 := 0#32
  let c0_i32_111 : BitVec 32 := 0#32
  ![v19.toNat, 0, 0]
def k0_off8 (d0 : Dev nD) (c1_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v94 : BitVec 32 := Scalar.addi v19 c1_i32_69
  let c4_i32_70 : BitVec 32 := 4#32
  let v95 : BitVec 32 := Scalar.remsi v94 c4_i32_70
  let c256_i32_105 : BitVec 32 := 256#32
  let v148 : BitVec 32 := Scalar.muli v95 c256_i32_105
  let c640_i32 : BitVec 32 := 640#32
  ![v148.toNat, 640]
def k0_dev10 (d0 : Dev nD) : Nat :=
  let c0_i32_109 : BitVec 32 := 0#32
  let c4_i32_56 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_54 : BitVec 32 := 1#32
  let v76 : BitVec 32 := Scalar.addi v19 c1_i32_54
  let c4_i32_55 : BitVec 32 := 4#32
  let v77 : BitVec 32 := Scalar.remsi v76 c4_i32_55
  let v78 : BitVec 32 := Scalar.muli c4_i32_56 v77
  let c4_i32_5 : BitVec 32 := 4#32
  let v20 : BitVec 32 := Scalar.remsi v2 c4_i32_5
  let v79 : BitVec 32 := Scalar.addi v78 v20
  let c1_i32_108 : BitVec 32 := 1#32
  let v149 : BitVec 32 := Scalar.muli v79 c1_i32_108
  let v150 : BitVec 32 := Scalar.addi c0_i32_109 v149
  v150.toNat
def k0_dev11 (d0 : Dev nD) : Nat :=
  let c0_i32_116 : BitVec 32 := 0#32
  let c4_i32_59 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_57 : BitVec 32 := 2#32
  let v80 : BitVec 32 := Scalar.addi v19 c2_i32_57
  let c4_i32_58 : BitVec 32 := 4#32
  let v81 : BitVec 32 := Scalar.remsi v80 c4_i32_58
  let v82 : BitVec 32 := Scalar.muli c4_i32_59 v81
  let c4_i32_5 : BitVec 32 := 4#32
  let v20 : BitVec 32 := Scalar.remsi v2 c4_i32_5
  let v83 : BitVec 32 := Scalar.addi v82 v20
  let c1_i32_115 : BitVec 32 := 1#32
  let v159 : BitVec 32 := Scalar.muli v83 c1_i32_115
  let v160 : BitVec 32 := Scalar.addi c0_i32_116 v159
  v160.toNat
def k0_dev12 (d0 : Dev nD) : Nat :=
  let c0_i32_124 : BitVec 32 := 0#32
  let c4_i32_62 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v84 : BitVec 32 := Scalar.addi v19 c3_i32_60
  let c4_i32_61 : BitVec 32 := 4#32
  let v85 : BitVec 32 := Scalar.remsi v84 c4_i32_61
  let v86 : BitVec 32 := Scalar.muli c4_i32_62 v85
  let c4_i32_5 : BitVec 32 := 4#32
  let v20 : BitVec 32 := Scalar.remsi v2 c4_i32_5
  let v87 : BitVec 32 := Scalar.addi v86 v20
  let c1_i32_123 : BitVec 32 := 1#32
  let v169 : BitVec 32 := Scalar.muli v87 c1_i32_123
  let v170 : BitVec 32 := Scalar.addi c0_i32_124 v169
  v170.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_155 : BitVec 32 := 256#32
  let v204 : BitVec 32 := Scalar.muli v20 c256_i32_155
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32 : BitVec 32 := 64#32
  let v205 : BitVec 32 := Scalar.muli v19 c64_i32
  let v206 : BitVec 32 := Scalar.addi v204 v205
  let v207 : Index := Scalar.indexCast v206
  let c0_156 : Index := 0#32
  ![v207.toNat, 0]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v211 : Index := Scalar.indexCast v19
  let c0_157 : Index := 0#32
  let c0_158 : Index := 0#32
  ![v211.toNat, 0, 0]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_165 : BitVec 32 := 0#32
  let c0_i32_166 : BitVec 32 := 0#32
  ![v19.toNat, 0, 0]
def k0_off12 (d0 : Dev nD) (c1_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_159 : BitVec 32 := 256#32
  let v215 : BitVec 32 := Scalar.muli v20 c256_i32_159
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v94 : BitVec 32 := Scalar.addi v19 c1_i32_69
  let c4_i32_70 : BitVec 32 := 4#32
  let v95 : BitVec 32 := Scalar.remsi v94 c4_i32_70
  let c64_i32_160 : BitVec 32 := 64#32
  let v216 : BitVec 32 := Scalar.muli v95 c64_i32_160
  let v217 : BitVec 32 := Scalar.addi v215 v216
  let c0_i32_167 : BitVec 32 := 0#32
  ![v217.toNat, 0]
def k0_dev13 (d0 : Dev nD) : Nat :=
  let c0_i32_164 : BitVec 32 := 0#32
  let c4_i32_56 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_54 : BitVec 32 := 1#32
  let v76 : BitVec 32 := Scalar.addi v19 c1_i32_54
  let c4_i32_55 : BitVec 32 := 4#32
  let v77 : BitVec 32 := Scalar.remsi v76 c4_i32_55
  let v78 : BitVec 32 := Scalar.muli c4_i32_56 v77
  let c4_i32_5 : BitVec 32 := 4#32
  let v20 : BitVec 32 := Scalar.remsi v2 c4_i32_5
  let v79 : BitVec 32 := Scalar.addi v78 v20
  let c1_i32_163 : BitVec 32 := 1#32
  let v218 : BitVec 32 := Scalar.muli v79 c1_i32_163
  let v219 : BitVec 32 := Scalar.addi c0_i32_164 v218
  v219.toNat
def k0_dev14 (d0 : Dev nD) : Nat :=
  let c0_i32_173 : BitVec 32 := 0#32
  let c4_i32_59 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_57 : BitVec 32 := 2#32
  let v80 : BitVec 32 := Scalar.addi v19 c2_i32_57
  let c4_i32_58 : BitVec 32 := 4#32
  let v81 : BitVec 32 := Scalar.remsi v80 c4_i32_58
  let v82 : BitVec 32 := Scalar.muli c4_i32_59 v81
  let c4_i32_5 : BitVec 32 := 4#32
  let v20 : BitVec 32 := Scalar.remsi v2 c4_i32_5
  let v83 : BitVec 32 := Scalar.addi v82 v20
  let c1_i32_172 : BitVec 32 := 1#32
  let v230 : BitVec 32 := Scalar.muli v83 c1_i32_172
  let v231 : BitVec 32 := Scalar.addi c0_i32_173 v230
  v231.toNat
def k0_dev15 (d0 : Dev nD) : Nat :=
  let c0_i32_182 : BitVec 32 := 0#32
  let c4_i32_62 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v84 : BitVec 32 := Scalar.addi v19 c3_i32_60
  let c4_i32_61 : BitVec 32 := 4#32
  let v85 : BitVec 32 := Scalar.remsi v84 c4_i32_61
  let v86 : BitVec 32 := Scalar.muli c4_i32_62 v85
  let c4_i32_5 : BitVec 32 := 4#32
  let v20 : BitVec 32 := Scalar.remsi v2 c4_i32_5
  let v87 : BitVec 32 := Scalar.addi v86 v20
  let c1_i32_181 : BitVec 32 := 1#32
  let v242 : BitVec 32 := Scalar.muli v87 c1_i32_181
  let v243 : BitVec 32 := Scalar.addi c0_i32_182 v242
  v243.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_213 : BitVec 32 := 256#32
  let v277 : BitVec 32 := Scalar.muli v19 c256_i32_213
  let c4_i32_5 : BitVec 32 := 4#32
  let v20 : BitVec 32 := Scalar.remsi v2 c4_i32_5
  let c64_i32_214 : BitVec 32 := 64#32
  let v278 : BitVec 32 := Scalar.muli v20 c64_i32_214
  let v279 : BitVec 32 := Scalar.addi v277 v278
  let v280 : Index := Scalar.indexCast v279
  let c640_215 : Index := 640#32
  ![v280.toNat, 640]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v284 : Index := Scalar.indexCast v20
  let c0_216 : Index := 0#32
  let c0_217 : Index := 0#32
  ![v284.toNat, 0, 0]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c0_i32_224 : BitVec 32 := 0#32
  let c0_i32_225 : BitVec 32 := 0#32
  ![v20.toNat, 0, 0]
def k0_off16 (d0 : Dev nD) (c1_i32_63 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_218 : BitVec 32 := 256#32
  let v288 : BitVec 32 := Scalar.muli v19 c256_i32_218
  let c4_i32_5 : BitVec 32 := 4#32
  let v20 : BitVec 32 := Scalar.remsi v2 c4_i32_5
  let v88 : BitVec 32 := Scalar.addi v20 c1_i32_63
  let c4_i32_64 : BitVec 32 := 4#32
  let v89 : BitVec 32 := Scalar.remsi v88 c4_i32_64
  let c64_i32_219 : BitVec 32 := 64#32
  let v289 : BitVec 32 := Scalar.muli v89 c64_i32_219
  let v290 : BitVec 32 := Scalar.addi v288 v289
  let c640_i32_226 : BitVec 32 := 640#32
  ![v290.toNat, 640]
def k0_dev16 (d0 : Dev nD) : Nat :=
  let c0_i32_223 : BitVec 32 := 0#32
  let c4_i32_45 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_45 v19
  let c4_i32_5 : BitVec 32 := 4#32
  let v20 : BitVec 32 := Scalar.remsi v2 c4_i32_5
  let c1_i32_46 : BitVec 32 := 1#32
  let v65 : BitVec 32 := Scalar.addi v20 c1_i32_46
  let c4_i32_47 : BitVec 32 := 4#32
  let v66 : BitVec 32 := Scalar.remsi v65 c4_i32_47
  let v67 : BitVec 32 := Scalar.addi v64 v66
  let c1_i32_222 : BitVec 32 := 1#32
  let v291 : BitVec 32 := Scalar.muli v67 c1_i32_222
  let v292 : BitVec 32 := Scalar.addi c0_i32_223 v291
  v292.toNat
def k0_dev17 (d0 : Dev nD) : Nat :=
  let c0_i32_232 : BitVec 32 := 0#32
  let c4_i32_48 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_48 v19
  let c4_i32_5 : BitVec 32 := 4#32
  let v20 : BitVec 32 := Scalar.remsi v2 c4_i32_5
  let c2_i32_49 : BitVec 32 := 2#32
  let v69 : BitVec 32 := Scalar.addi v20 c2_i32_49
  let c4_i32_50 : BitVec 32 := 4#32
  let v70 : BitVec 32 := Scalar.remsi v69 c4_i32_50
  let v71 : BitVec 32 := Scalar.addi v68 v70
  let c1_i32_231 : BitVec 32 := 1#32
  let v303 : BitVec 32 := Scalar.muli v71 c1_i32_231
  let v304 : BitVec 32 := Scalar.addi c0_i32_232 v303
  v304.toNat
def k0_dev18 (d0 : Dev nD) : Nat :=
  let c0_i32_241 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_51 v19
  let c4_i32_5 : BitVec 32 := 4#32
  let v20 : BitVec 32 := Scalar.remsi v2 c4_i32_5
  let c3_i32_52 : BitVec 32 := 3#32
  let v73 : BitVec 32 := Scalar.addi v20 c3_i32_52
  let c4_i32_53 : BitVec 32 := 4#32
  let v74 : BitVec 32 := Scalar.remsi v73 c4_i32_53
  let v75 : BitVec 32 := Scalar.addi v72 v74
  let c1_i32_240 : BitVec 32 := 1#32
  let v315 : BitVec 32 := Scalar.muli v75 c1_i32_240
  let v316 : BitVec 32 := Scalar.addi c0_i32_241 v315
  v316.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_273 : BitVec 32 := 256#32
  let v352 : BitVec 32 := Scalar.muli v20 c256_i32_273
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c64_i32_274 : BitVec 32 := 64#32
  let v353 : BitVec 32 := Scalar.muli v19 c64_i32_274
  let v354 : BitVec 32 := Scalar.addi v352 v353
  let c0_i32_281 : BitVec 32 := 0#32
  ![v354.toNat, 0]
def k0_dev19 (d0 : Dev nD) : Nat :=
  let c0_i32_280 : BitVec 32 := 0#32
  let c4_i32_56 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_54 : BitVec 32 := 1#32
  let v76 : BitVec 32 := Scalar.addi v19 c1_i32_54
  let c4_i32_55 : BitVec 32 := 4#32
  let v77 : BitVec 32 := Scalar.remsi v76 c4_i32_55
  let v78 : BitVec 32 := Scalar.muli c4_i32_56 v77
  let c4_i32_5 : BitVec 32 := 4#32
  let v20 : BitVec 32 := Scalar.remsi v2 c4_i32_5
  let v79 : BitVec 32 := Scalar.addi v78 v20
  let c1_i32_279 : BitVec 32 := 1#32
  let v358 : BitVec 32 := Scalar.muli v79 c1_i32_279
  let v359 : BitVec 32 := Scalar.addi c0_i32_280 v358
  v359.toNat
def k0_dev20 (d0 : Dev nD) : Nat :=
  let c0_i32_288 : BitVec 32 := 0#32
  let c4_i32_59 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_57 : BitVec 32 := 2#32
  let v80 : BitVec 32 := Scalar.addi v19 c2_i32_57
  let c4_i32_58 : BitVec 32 := 4#32
  let v81 : BitVec 32 := Scalar.remsi v80 c4_i32_58
  let v82 : BitVec 32 := Scalar.muli c4_i32_59 v81
  let c4_i32_5 : BitVec 32 := 4#32
  let v20 : BitVec 32 := Scalar.remsi v2 c4_i32_5
  let v83 : BitVec 32 := Scalar.addi v82 v20
  let c1_i32_287 : BitVec 32 := 1#32
  let v369 : BitVec 32 := Scalar.muli v83 c1_i32_287
  let v370 : BitVec 32 := Scalar.addi c0_i32_288 v369
  v370.toNat
def k0_dev21 (d0 : Dev nD) : Nat :=
  let c0_i32_296 : BitVec 32 := 0#32
  let c4_i32_62 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v84 : BitVec 32 := Scalar.addi v19 c3_i32_60
  let c4_i32_61 : BitVec 32 := 4#32
  let v85 : BitVec 32 := Scalar.remsi v84 c4_i32_61
  let v86 : BitVec 32 := Scalar.muli c4_i32_62 v85
  let c4_i32_5 : BitVec 32 := 4#32
  let v20 : BitVec 32 := Scalar.remsi v2 c4_i32_5
  let v87 : BitVec 32 := Scalar.addi v86 v20
  let c1_i32_295 : BitVec 32 := 1#32
  let v380 : BitVec 32 := Scalar.muli v87 c1_i32_295
  let v381 : BitVec 32 := Scalar.addi c0_i32_296 v380
  v381.toNat
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_327 : BitVec 32 := 256#32
  let v416 : BitVec 32 := Scalar.muli v19 c256_i32_327
  let c4_i32_5 : BitVec 32 := 4#32
  let v20 : BitVec 32 := Scalar.remsi v2 c4_i32_5
  let c64_i32_328 : BitVec 32 := 64#32
  let v417 : BitVec 32 := Scalar.muli v20 c64_i32_328
  let v418 : BitVec 32 := Scalar.addi v416 v417
  let c640_i32_335 : BitVec 32 := 640#32
  ![v418.toNat, 640]
def k0_dev22 (d0 : Dev nD) : Nat :=
  let c0_i32_334 : BitVec 32 := 0#32
  let c4_i32_45 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_45 v19
  let c4_i32_5 : BitVec 32 := 4#32
  let v20 : BitVec 32 := Scalar.remsi v2 c4_i32_5
  let c1_i32_46 : BitVec 32 := 1#32
  let v65 : BitVec 32 := Scalar.addi v20 c1_i32_46
  let c4_i32_47 : BitVec 32 := 4#32
  let v66 : BitVec 32 := Scalar.remsi v65 c4_i32_47
  let v67 : BitVec 32 := Scalar.addi v64 v66
  let c1_i32_333 : BitVec 32 := 1#32
  let v422 : BitVec 32 := Scalar.muli v67 c1_i32_333
  let v423 : BitVec 32 := Scalar.addi c0_i32_334 v422
  v423.toNat
def k0_dev23 (d0 : Dev nD) : Nat :=
  let c0_i32_342 : BitVec 32 := 0#32
  let c4_i32_48 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_48 v19
  let c4_i32_5 : BitVec 32 := 4#32
  let v20 : BitVec 32 := Scalar.remsi v2 c4_i32_5
  let c2_i32_49 : BitVec 32 := 2#32
  let v69 : BitVec 32 := Scalar.addi v20 c2_i32_49
  let c4_i32_50 : BitVec 32 := 4#32
  let v70 : BitVec 32 := Scalar.remsi v69 c4_i32_50
  let v71 : BitVec 32 := Scalar.addi v68 v70
  let c1_i32_341 : BitVec 32 := 1#32
  let v433 : BitVec 32 := Scalar.muli v71 c1_i32_341
  let v434 : BitVec 32 := Scalar.addi c0_i32_342 v433
  v434.toNat
def k0_dev24 (d0 : Dev nD) : Nat :=
  let c0_i32_350 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_51 v19
  let c4_i32_5 : BitVec 32 := 4#32
  let v20 : BitVec 32 := Scalar.remsi v2 c4_i32_5
  let c3_i32_52 : BitVec 32 := 3#32
  let v73 : BitVec 32 := Scalar.addi v20 c3_i32_52
  let c4_i32_53 : BitVec 32 := 4#32
  let v74 : BitVec 32 := Scalar.remsi v73 c4_i32_53
  let v75 : BitVec 32 := Scalar.addi v72 v74
  let c1_i32_349 : BitVec 32 := 1#32
  let v444 : BitVec 32 := Scalar.muli v75 c1_i32_349
  let v445 : BitVec 32 := Scalar.addi c0_i32_350 v444
  v445.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_371 : BitVec 32 := 256#32
  let v470 : BitVec 32 := Scalar.muli v20 c256_i32_371
  let c0_i32_377 : BitVec 32 := 0#32
  ![v470.toNat, 0]
def k0_dev25 (d0 : Dev nD) : Nat :=
  let c0_i32_376 : BitVec 32 := 0#32
  let c4_i32_45 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.muli c4_i32_45 v19
  let c4_i32_5 : BitVec 32 := 4#32
  let v20 : BitVec 32 := Scalar.remsi v2 c4_i32_5
  let c1_i32_46 : BitVec 32 := 1#32
  let v65 : BitVec 32 := Scalar.addi v20 c1_i32_46
  let c4_i32_47 : BitVec 32 := 4#32
  let v66 : BitVec 32 := Scalar.remsi v65 c4_i32_47
  let v67 : BitVec 32 := Scalar.addi v64 v66
  let c1_i32_375 : BitVec 32 := 1#32
  let v472 : BitVec 32 := Scalar.muli v67 c1_i32_375
  let v473 : BitVec 32 := Scalar.addi c0_i32_376 v472
  v473.toNat
def k0_dev26 (d0 : Dev nD) : Nat :=
  let c0_i32_383 : BitVec 32 := 0#32
  let c4_i32_48 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v68 : BitVec 32 := Scalar.muli c4_i32_48 v19
  let c4_i32_5 : BitVec 32 := 4#32
  let v20 : BitVec 32 := Scalar.remsi v2 c4_i32_5
  let c2_i32_49 : BitVec 32 := 2#32
  let v69 : BitVec 32 := Scalar.addi v20 c2_i32_49
  let c4_i32_50 : BitVec 32 := 4#32
  let v70 : BitVec 32 := Scalar.remsi v69 c4_i32_50
  let v71 : BitVec 32 := Scalar.addi v68 v70
  let c1_i32_382 : BitVec 32 := 1#32
  let v481 : BitVec 32 := Scalar.muli v71 c1_i32_382
  let v482 : BitVec 32 := Scalar.addi c0_i32_383 v481
  v482.toNat
def k0_dev27 (d0 : Dev nD) : Nat :=
  let c0_i32_390 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v72 : BitVec 32 := Scalar.muli c4_i32_51 v19
  let c4_i32_5 : BitVec 32 := 4#32
  let v20 : BitVec 32 := Scalar.remsi v2 c4_i32_5
  let c3_i32_52 : BitVec 32 := 3#32
  let v73 : BitVec 32 := Scalar.addi v20 c3_i32_52
  let c4_i32_53 : BitVec 32 := 4#32
  let v74 : BitVec 32 := Scalar.remsi v73 c4_i32_53
  let v75 : BitVec 32 := Scalar.addi v72 v74
  let c1_i32_389 : BitVec 32 := 1#32
  let v490 : BitVec 32 := Scalar.muli v75 c1_i32_389
  let v491 : BitVec 32 := Scalar.addi c0_i32_390 v490
  v491.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_411 : BitVec 32 := 256#32
  let v516 : BitVec 32 := Scalar.muli v19 c256_i32_411
  let c640_i32_417 : BitVec 32 := 640#32
  ![v516.toNat, 640]
def k0_dev28 (d0 : Dev nD) : Nat :=
  let c0_i32_416 : BitVec 32 := 0#32
  let c4_i32_56 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_54 : BitVec 32 := 1#32
  let v76 : BitVec 32 := Scalar.addi v19 c1_i32_54
  let c4_i32_55 : BitVec 32 := 4#32
  let v77 : BitVec 32 := Scalar.remsi v76 c4_i32_55
  let v78 : BitVec 32 := Scalar.muli c4_i32_56 v77
  let c4_i32_5 : BitVec 32 := 4#32
  let v20 : BitVec 32 := Scalar.remsi v2 c4_i32_5
  let v79 : BitVec 32 := Scalar.addi v78 v20
  let c1_i32_415 : BitVec 32 := 1#32
  let v518 : BitVec 32 := Scalar.muli v79 c1_i32_415
  let v519 : BitVec 32 := Scalar.addi c0_i32_416 v518
  v519.toNat
def k0_dev29 (d0 : Dev nD) : Nat :=
  let c0_i32_423 : BitVec 32 := 0#32
  let c4_i32_59 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_57 : BitVec 32 := 2#32
  let v80 : BitVec 32 := Scalar.addi v19 c2_i32_57
  let c4_i32_58 : BitVec 32 := 4#32
  let v81 : BitVec 32 := Scalar.remsi v80 c4_i32_58
  let v82 : BitVec 32 := Scalar.muli c4_i32_59 v81
  let c4_i32_5 : BitVec 32 := 4#32
  let v20 : BitVec 32 := Scalar.remsi v2 c4_i32_5
  let v83 : BitVec 32 := Scalar.addi v82 v20
  let c1_i32_422 : BitVec 32 := 1#32
  let v527 : BitVec 32 := Scalar.muli v83 c1_i32_422
  let v528 : BitVec 32 := Scalar.addi c0_i32_423 v527
  v528.toNat
def k0_dev30 (d0 : Dev nD) : Nat :=
  let c0_i32_430 : BitVec 32 := 0#32
  let c4_i32_62 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v84 : BitVec 32 := Scalar.addi v19 c3_i32_60
  let c4_i32_61 : BitVec 32 := 4#32
  let v85 : BitVec 32 := Scalar.remsi v84 c4_i32_61
  let v86 : BitVec 32 := Scalar.muli c4_i32_62 v85
  let c4_i32_5 : BitVec 32 := 4#32
  let v20 : BitVec 32 := Scalar.remsi v2 c4_i32_5
  let v87 : BitVec 32 := Scalar.addi v86 v20
  let c1_i32_429 : BitVec 32 := 1#32
  let v536 : BitVec 32 := Scalar.muli v87 c1_i32_429
  let v537 : BitVec 32 := Scalar.addi c0_i32_430 v536
  v537.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mesh.lean ====
/-
The mesh of sixteen devices as four planes of four, the peers of a device, the closed forms of the kernel's
device numbers and offsets, and the parts of the buffers that the copies move.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Hier

open Cert.KernelIdeal Cert.KernelIdeal.Gen
open Idealize.ShloMosaic
open Idealize.ShloMosaic.TcCoe

/-! ## Coordinates and peers -/

set_option backward.proofsInPublic true in
/-- The place of a device in its plane. -/
def pc (c : Dev nD) : Fin 4 := ⟨c.val % 4, Nat.mod_lt _ (by decide)⟩
set_option backward.proofsInPublic true in
/-- The plane of a device. -/
def zc (c : Dev nD) : Fin 4 := ⟨c.val / 4 % 4, Nat.mod_lt _ (by decide)⟩
set_option backward.proofsInPublic true in
/-- The device at a place of a plane. -/
def dev (z p : Fin 4) : Dev nD := ⟨(4 * z.val + p.val) % 16, Nat.mod_lt _ (by decide)⟩
set_option backward.proofsInPublic true in
/-- A coordinate moved on by `o + 1`. -/
def adv (k : Fin 4) (o : Fin 3) : Fin 4 := ⟨(k.val + o.val + 1) % 4, Nat.mod_lt _ (by decide)⟩

/-- The peer of the same plane, `o + 1` places on. -/
def pl (c : Dev nD) (o : Fin 3) : Dev nD := dev (zc c) (adv (pc c) o)
/-- The peer of the same place, `o + 1` planes on. -/
def zp (c : Dev nD) (o : Fin 3) : Dev nD := dev (adv (zc c) o) (pc c)

theorem pl_rev : ∀ (c : Dev nD) (o : Fin 3), pl (pl c o) o.rev = c := by decide +kernel
theorem zp_rev : ∀ (c : Dev nD) (o : Fin 3), zp (zp c o) o.rev = c := by decide +kernel
theorem pc_dev : ∀ z p : Fin 4, pc (dev z p) = p := by decide +kernel
theorem zc_dev : ∀ z p : Fin 4, zc (dev z p) = z := by decide +kernel
theorem dev_eta : ∀ c : Dev nD, dev (zc c) (pc c) = c := by decide +kernel
theorem adv_ne : ∀ (k : Fin 4) (o : Fin 3), adv k o ≠ k := by decide +kernel
theorem adv_rev : ∀ (k : Fin 4) (o : Fin 3), adv (adv k o) o.rev = k := by decide +kernel
theorem fin4_cases (k : Fin 4) : (Finset.univ : Finset (Fin 4)) = {k, adv k 0, adv k 1, adv k 2} := by revert k; decide

/-- The outer coordinate of a half: the place for half 0, the plane for half 1. -/
def oc (h : Fin 2) (c : Dev nD) : Fin 4 := if h = 0 then pc c else zc c
/-- The inner coordinate of a half. -/
def ic (h : Fin 2) (c : Dev nD) : Fin 4 := if h = 0 then zc c else pc c
/-- The device of a half with the given outer and inner coordinates. -/
def od (h : Fin 2) (q k : Fin 4) : Dev nD := if h = 0 then dev k q else dev q k
/-- The peer of a half along the outer coordinate. -/
def op (h : Fin 2) (c : Dev nD) (o : Fin 3) : Dev nD := if h = 0 then pl c o else zp c o
/-- The peer of a half along the inner coordinate. -/
def ip (h : Fin 2) (c : Dev nD) (o : Fin 3) : Dev nD := if h = 0 then zp c o else pl c o
/-- The peer of stage `s` of half `h`: stages 0 and 3 go along the outer coordinate, stages 1 and 2 along the inner one. -/
def peer (s : Fin 4) (h : Fin 2) (c : Dev nD) (o : Fin 3) : Dev nD := if s = 0 ∨ s = 3 then op h c o else ip h c o

theorem peer_rev : ∀ (s : Fin 4) (h : Fin 2) (c : Dev nD) (o : Fin 3), peer s h (peer s h c o) o.rev = c := by decide +kernel
theorem oc_op : ∀ (h : Fin 2) (c : Dev nD) (o : Fin 3), oc h (op h c o) = adv (oc h c) o := by decide +kernel
theorem ic_op : ∀ (h : Fin 2) (c : Dev nD) (o : Fin 3), ic h (op h c o) = ic h c := by decide +kernel
theorem oc_ip : ∀ (h : Fin 2) (c : Dev nD) (o : Fin 3), oc h (ip h c o) = oc h c := by decide +kernel
theorem ic_ip : ∀ (h : Fin 2) (c : Dev nD) (o : Fin 3), ic h (ip h c o) = adv (ic h c) o := by decide +kernel
theorem od_eta : ∀ (h : Fin 2) (c : Dev nD), od h (oc h c) (ic h c) = c := by decide +kernel
theorem oc_od : ∀ (h : Fin 2) (q k : Fin 4), oc h (od h q k) = q := by decide +kernel
theorem ic_od : ∀ (h : Fin 2) (q k : Fin 4), ic h (od h q k) = k := by decide +kernel

/-! ## The kernel's device numbers -/

theorem dev1_eq : ∀ c : Dev nD, (⟨k0_dev1 c, k0_dev1_lt c⟩ : Dev nD) = pl c 0 := by decide +kernel
theorem dev2_eq : ∀ c : Dev nD, (⟨k0_dev2 c, k0_dev2_lt c⟩ : Dev nD) = zp c 0 := by decide +kernel
theorem dev3_eq : ∀ c : Dev nD, (⟨k0_dev3 c, k0_dev3_lt c⟩ : Dev nD) = pl c 1 := by decide +kernel
theorem dev4_eq : ∀ c : Dev nD, (⟨k0_dev4 c, k0_dev4_lt c⟩ : Dev nD) = zp c 1 := by decide +kernel
theorem dev5_eq : ∀ c : Dev nD, (⟨k0_dev5 c, k0_dev5_lt c⟩ : Dev nD) = pl c 2 := by decide +kernel
theorem dev6_eq : ∀ c : Dev nD, (⟨k0_dev6 c, k0_dev6_lt c⟩ : Dev nD) = zp c 2 := by decide +kernel
theorem dev7_eq : ∀ c : Dev nD, (⟨k0_dev7 c, k0_dev7_lt c⟩ : Dev nD) = peer 0 0 c 0 := by decide +kernel
theorem dev8_eq : ∀ c : Dev nD, (⟨k0_dev8 c, k0_dev8_lt c⟩ : Dev nD) = peer 0 0 c 1 := by decide +kernel
theorem dev9_eq : ∀ c : Dev nD, (⟨k0_dev9 c, k0_dev9_lt c⟩ : Dev nD) = peer 0 0 c 2 := by decide +kernel
theorem dev10_eq : ∀ c : Dev nD, (⟨k0_dev10 c, k0_dev10_lt c⟩ : Dev nD) = peer 0 1 c 0 := by decide +kernel
theorem dev11_eq : ∀ c : Dev nD, (⟨k0_dev11 c, k0_dev11_lt c⟩ : Dev nD) = peer 0 1 c 1 := by decide +kernel
theorem dev12_eq : ∀ c : Dev nD, (⟨k0_dev12 c, k0_dev12_lt c⟩ : Dev nD) = peer 0 1 c 2 := by decide +kernel
theorem dev13_eq : ∀ c : Dev nD, (⟨k0_dev13 c, k0_dev13_lt c⟩ : Dev nD) = peer 1 0 c 0 := by decide +kernel
theorem dev14_eq : ∀ c : Dev nD, (⟨k0_dev14 c, k0_dev14_lt c⟩ : Dev nD) = peer 1 0 c 1 := by decide +kernel
theorem dev15_eq : ∀ c : Dev nD, (⟨k0_dev15 c, k0_dev15_lt c⟩ : Dev nD) = peer 1 0 c 2 := by decide +kernel
theorem dev16_eq : ∀ c : Dev nD, (⟨k0_dev16 c, k0_dev16_lt c⟩ : Dev nD) = peer 1 1 c 0 := by decide +kernel
theorem dev17_eq : ∀ c : Dev nD, (⟨k0_dev17 c, k0_dev17_lt c⟩ : Dev nD) = peer 1 1 c 1 := by decide +kernel
theorem dev18_eq : ∀ c : Dev nD, (⟨k0_dev18 c, k0_dev18_lt c⟩ : Dev nD) = peer 1 1 c 2 := by decide +kernel
theorem dev19_eq : ∀ c : Dev nD, (⟨k0_dev19 c, k0_dev19_lt c⟩ : Dev nD) = peer 2 0 c 0 := by decide +kernel
theorem dev20_eq : ∀ c : Dev nD, (⟨k0_dev20 c, k0_dev20_lt c⟩ : Dev nD) = peer 2 0 c 1 := by decide +kernel
theorem dev21_eq : ∀ c : Dev nD, (⟨k0_dev21 c, k0_dev21_lt c⟩ : Dev nD) = peer 2 0 c 2 := by decide +kernel
theorem dev22_eq : ∀ c : Dev nD, (⟨k0_dev22 c, k0_dev22_lt c⟩ : Dev nD) = peer 2 1 c 0 := by decide +kernel
theorem dev23_eq : ∀ c : Dev nD, (⟨k0_dev23 c, k0_dev23_lt c⟩ : Dev nD) = peer 2 1 c 1 := by decide +kernel
theorem dev24_eq : ∀ c : Dev nD, (⟨k0_dev24 c, k0_dev24_lt c⟩ : Dev nD) = peer 2 1 c 2 := by decide +kernel
theorem dev25_eq : ∀ c : Dev nD, (⟨k0_dev25 c, k0_dev25_lt c⟩ : Dev nD) = peer 3 0 c 0 := by decide +kernel
theorem dev26_eq : ∀ c : Dev nD, (⟨k0_dev26 c, k0_dev26_lt c⟩ : Dev nD) = peer 3 0 c 1 := by decide +kernel
theorem dev27_eq : ∀ c : Dev nD, (⟨k0_dev27 c, k0_dev27_lt c⟩ : Dev nD) = peer 3 0 c 2 := by decide +kernel
theorem dev28_eq : ∀ c : Dev nD, (⟨k0_dev28 c, k0_dev28_lt c⟩ : Dev nD) = peer 3 1 c 0 := by decide +kernel
theorem dev29_eq : ∀ c : Dev nD, (⟨k0_dev29 c, k0_dev29_lt c⟩ : Dev nD) = peer 3 1 c 1 := by decide +kernel
theorem dev30_eq : ∀ c : Dev nD, (⟨k0_dev30 c, k0_dev30_lt c⟩ : Dev nD) = peer 3 1 c 2 := by decide +kernel

/-! ## The kernel's offsets -/

theorem off1_eq : ∀ c : Dev nD, k0_off1 c = ![256 * (oc 0 c).val, 0] := by decide +kernel
theorem off2_eq : ∀ c : Dev nD, k0_off2 c = ![(oc 0 c).val, 0, 0] := by decide +kernel
theorem off3_eq : ∀ c : Dev nD, k0_off3 c = ![(oc 0 c).val, 0, 0] := by decide +kernel
theorem off4_eq : ∀ (c : Dev nD) (o : Fin 3), k0_off4 c (BitVec.ofNat 32 (1 + o.val)) = ![256 * (adv (oc 0 c) o).val, 0] := by decide +kernel
theorem off5_eq : ∀ c : Dev nD, k0_off5 c = ![256 * (oc 1 c).val, 640] := by decide +kernel
theorem off6_eq : ∀ c : Dev nD, k0_off6 c = ![(oc 1 c).val, 0, 0] := by decide +kernel
theorem off7_eq : ∀ c : Dev nD, k0_off7 c = ![(oc 1 c).val, 0, 0] := by decide +kernel
theorem off8_eq : ∀ (c : Dev nD) (o : Fin 3), k0_off8 c (BitVec.ofNat 32 (1 + o.val)) = ![256 * (adv (oc 1 c) o).val, 640] := by decide +kernel
theorem off9_eq : ∀ c : Dev nD, k0_off9 c = ![256 * (oc 0 c).val + 64 * (ic 0 c).val, 0] := by decide +kernel
theorem off10_eq : ∀ c : Dev nD, k0_off10 c = ![(ic 0 c).val, 0, 0] := by decide +kernel
theorem off11_eq : ∀ c : Dev nD, k0_off11 c = ![(ic 0 c).val, 0, 0] := by decide +kernel
theorem off12_eq : ∀ (c : Dev nD) (o : Fin 3), k0_off12 c (BitVec.ofNat 32 (1 + o.val)) = ![256 * (oc 0 c).val + 64 * (adv (ic 0 c) o).val, 0] := by decide +kernel
theorem off13_eq : ∀ c : Dev nD, k0_off13 c = ![256 * (oc 1 c).val + 64 * (ic 1 c).val, 640] := by decide +kernel
theorem off14_eq : ∀ c : Dev nD, k0_off14 c = ![(ic 1 c).val, 0, 0] := by decide +kernel
theorem off15_eq : ∀ c : Dev nD, k0_off15 c = ![(ic 1 c).val, 0, 0] := by decide +kernel
theorem off16_eq : ∀ (c : Dev nD) (o : Fin 3), k0_off16 c (BitVec.ofNat 32 (1 + o.val)) = ![256 * (oc 1 c).val + 64 * (adv (ic 1 c) o).val, 640] := by decide +kernel
theorem off17_eq : ∀ c : Dev nD, k0_off17 c = ![256 * (oc 0 c).val + 64 * (ic 0 c).val, 0] := by decide +kernel
theorem off18_eq : ∀ c : Dev nD, k0_off18 c = ![256 * (oc 1 c).val + 64 * (ic 1 c).val, 640] := by decide +kernel
theorem off19_eq : ∀ c : Dev nD, k0_off19 c = ![256 * (oc 0 c).val, 0] := by decide +kernel
theorem off20_eq : ∀ c : Dev nD, k0_off20 c = ![256 * (oc 1 c).val, 640] := by decide +kernel

/-! ## The parts of the buffers -/

/-- The column lies in the half: the first 640 columns are half 0, the others half 1. -/
def inHalf (h : Fin 2) (j : ℕ) : Prop := if h = 0 then j < 640 else 640 ≤ j
instance (h : Fin 2) (j : ℕ) : Decidable (inHalf h j) := by unfold inHalf; infer_instance

/-- The columns of a half in one quarter of the rows. -/
def oQ (h : Fin 2) (q : Fin 4) : Finset S1024x1024.Idx :=
  Finset.univ.filter fun i => (i 0).val / 256 = q.val ∧ inHalf h (i 1).val
/-- The columns of a half in one block of one quarter of the rows. -/
def oK (h : Fin 2) (q k : Fin 4) : Finset S1024x1024.Idx :=
  Finset.univ.filter fun i => (i 0).val / 256 = q.val ∧ (i 0).val % 256 / 64 = k.val ∧ inHalf h (i 1).val
/-- One slot of a landing buffer. -/
def slot (a b : ℕ) (k : Fin 4) : Finset (⟨3, ![4, a, b]⟩ : Shape).Idx := Finset.univ.filter fun i => (i 0).val = k.val

theorem mem_oQ {h : Fin 2} {q : Fin 4} {i : S1024x1024.Idx} : i ∈ oQ h q ↔ (i 0).val / 256 = q.val ∧ inHalf h (i 1).val := by
  simp [oQ]
theorem mem_oK {h : Fin 2} {q k : Fin 4} {i : S1024x1024.Idx} :
    i ∈ oK h q k ↔ (i 0).val / 256 = q.val ∧ (i 0).val % 256 / 64 = k.val ∧ inHalf h (i 1).val := by
  simp [oK]
theorem mem_slot {a b : ℕ} {k : Fin 4} {i : (⟨3, ![4, a, b]⟩ : Shape).Idx} : i ∈ slot a b k ↔ (i 0).val = k.val := by
  simp [slot]

theorem lt0 (i : S1024x1024.Idx) : (i 0).val < 1024 := (i 0).isLt
theorem lt1 (i : S1024x1024.Idx) : (i 1).val < 1024 := (i 1).isLt

/-- The rectangle of a quarter of half 0. -/
theorem set_oQ0 {off : Fin 2 → ℕ} {inb} (q : Fin 4) (hoff : off = ![256 * q.val, 0]) :
    (Rect.unit (s := S1024x1024) off S256x640.size inb).set = oQ 0 q := by
  subst hoff
  ext i
  rw [Rect.mem_set_unit, mem_oQ, Fin.forall_fin_two]
  have := lt0 i; have := lt1 i; have := q.isLt
  simp [inHalf]
  omega
/-- The rectangle of a quarter of half 1. -/
theorem set_oQ1 {off : Fin 2 → ℕ} {inb} (q : Fin 4) (hoff : off = ![256 * q.val, 640]) :
    (Rect.unit (s := S1024x1024) off S256x384.size inb).set = oQ 1 q := by
  subst hoff
  ext i
  rw [Rect.mem_set_unit, mem_oQ, Fin.forall_fin_two]
  have := lt0 i; have := lt1 i; have := q.isLt
  simp [inHalf]
  omega
/-- The rectangle of a block of half 0. -/
theorem set_oK0 {off : Fin 2 → ℕ} {inb} (q k : Fin 4) (hoff : off = ![256 * q.val + 64 * k.val, 0]) :
    (Rect.unit (s := S1024x1024) off S64x640.size inb).set = oK 0 q k := by
  subst hoff
  ext i
  rw [Rect.mem_set_unit, mem_oK, Fin.forall_fin_two]
  have := lt0 i; have := lt1 i; have := q.isLt; have := k.isLt
  simp [inHalf]
  omega
/-- The rectangle of a block of half 1. -/
theorem set_oK1 {off : Fin 2 → ℕ} {inb} (q k : Fin 4) (hoff : off = ![256 * q.val + 64 * k.val, 640]) :
    (Rect.unit (s := S1024x1024) off S64x384.size inb).set = oK 1 q k := by
  subst hoff
  ext i
  rw [Rect.mem_set_unit, mem_oK, Fin.forall_fin_two]
  have := lt0 i; have := lt1 i; have := q.isLt; have := k.isLt
  simp [inHalf]
  omega
/-- The rectangle of a slot. -/
theorem set_slot {a b : ℕ} {off : Fin 3 → ℕ} {inb} (k : Fin 4) (hoff : off = ![k.val, 0, 0]) :
    (Rect.unit (s := ⟨3, ![4, a, b]⟩) off ![1, a, b] inb).set = slot a b k := by
  subst hoff
  ext i
  rw [Rect.mem_set_unit, mem_slot]
  have h1 : (i 1).val < a := (i 1).isLt
  have h2 : (i 2).val < b := (i 2).isLt
  rw [show (∀ x : Fin 3, (![k.val, 0, 0] : Fin 3 → ℕ) x ≤ (i x).val ∧ (i x).val < (![k.val, 0, 0] : Fin 3 → ℕ) x + (![1, a, b] : Fin 3 → ℕ) x)
      ↔ (k.val ≤ (i 0).val ∧ (i 0).val < k.val + 1) ∧ (0 ≤ (i 1).val ∧ (i 1).val < 0 + a) ∧ (0 ≤ (i 2).val ∧ (i 2).val < 0 + b) from by
    rw [Fin.forall_fin_succ, Fin.forall_fin_succ, Fin.forall_fin_one]; rfl]
  omega

/-! Partitions. -/

theorem oQ_eq_biUnion (h : Fin 2) (q : Fin 4) : oQ h q = Finset.univ.biUnion fun k => oK h q k := by
  ext i
  simp only [Finset.mem_biUnion, Finset.mem_univ, true_and, mem_oQ, mem_oK]
  constructor
  · rintro ⟨h1, h2⟩
    exact ⟨⟨(i 0).val % 256 / 64, by omega⟩, h1, rfl, h2⟩
  · rintro ⟨k, h1, -, h2⟩
    exact ⟨h1, h2⟩
theorem oK_disjoint (h : Fin 2) (q : Fin 4) : ∀ k k' : Fin 4, k ≠ k' → Disjoint (oK h q k) (oK h q k') := fun k k' hk =>
  Finset.disjoint_left.mpr fun i h1 h2 => hk (Fin.ext ((mem_oK.mp h1).2.1.symm.trans (mem_oK.mp h2).2.1))
theorem univ_eq_biUnion : (Finset.univ : Finset S1024x1024.Idx) = Finset.univ.biUnion fun x : Fin 2 × Fin 4 => oQ x.1 x.2 := by
  ext i
  simp only [Finset.mem_biUnion, Finset.mem_univ, true_and, mem_oQ, true_iff]
  have := lt0 i
  refine ⟨(if (i 1).val < 640 then 0 else 1, ⟨(i 0).val / 256, by omega⟩), rfl, ?_⟩
  by_cases h : (i 1).val < 640
  · simp only [if_pos h]; exact h
  · simp only [if_neg h]; exact Nat.le_of_not_lt h
theorem oQ_disjoint : ∀ x y : Fin 2 × Fin 4, x ≠ y → Disjoint (oQ x.1 x.2) (oQ y.1 y.2) := fun x y hxy =>
  Finset.disjoint_left.mpr fun i h1 h2 => hxy (by
    have a1 := mem_oQ.mp h1; have a2 := mem_oQ.mp h2
    refine Prod.ext ?_ (Fin.ext (a1.1.symm.trans a2.1))
    have b1 := a1.2; have b2 := a2.2
    rcases x with ⟨⟨x, hx⟩, q⟩; rcases y with ⟨⟨y, hy⟩, q'⟩
    apply Fin.ext
    unfold inHalf at b1 b2
    simp only [Fin.ext_iff] at b1 b2
    simp only [Fin.val_zero] at b1 b2
    show x = y
    split at b1 <;> split at b2 <;> omega)
theorem slot_univ (a b : ℕ) : (Finset.univ : Finset (⟨3, ![4, a, b]⟩ : Shape).Idx) = Finset.univ.biUnion fun k => slot a b k := by
  ext i
  simp only [Finset.mem_biUnion, Finset.mem_univ, true_and, mem_slot, true_iff]
  exact ⟨⟨(i 0).val, (i 0).isLt⟩, rfl⟩
theorem slot_disjoint (a b : ℕ) : ∀ k k' : Fin 4, k ≠ k' → Disjoint (slot a b k) (slot a b k') := fun k k' hk =>
  Finset.disjoint_left.mpr fun i h1 h2 => hk (Fin.ext ((mem_slot.mp h1).symm.trans (mem_slot.mp h2)))

end Cert.Hier

end
-- ==== Proof.Contents.lean ====
/-
What the buffers hold, as functions of the partial products `A c` that the devices compute: the landing buffers, the
partly reduced blocks, and the reduced matrix.
-/
module

public import proofs.«01_k».proof.Proof.Mesh

@[expose] public section

noncomputable section

namespace Cert.Hier

open Cert.KernelIdeal Cert.KernelIdeal.Gen
open Idealize.ShloMosaic
open Idealize.ShloMosaic.TcCoe

variable {F : FTy → Type} [FloatOps F]

set_option backward.proofsInPublic true in
/-- An index of a matrix from two numbers, each taken modulo its extent. -/
def mk2 (a b : ℕ) (ha : 0 < a) (hb : 0 < b) (r j : ℕ) : (⟨2, ![a, b]⟩ : Shape).Idx := fun x => match x with
  | ⟨0, _⟩ => ⟨r % a, Nat.mod_lt _ ha⟩
  | ⟨1, _⟩ => ⟨j % b, Nat.mod_lt _ hb⟩

/-- Two indices of a matrix with the same coordinates are equal. -/
theorem idx_ext2 {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem mk2_eq {a b : ℕ} {ha : 0 < a} {hb : 0 < b} {r j : ℕ} {i : (⟨2, ![a, b]⟩ : Shape).Idx} (h0 : (i 0).val = r % a) (h1 : (i 1).val = j % b) :
    mk2 a b ha hb r j = i := idx_ext2 h0.symm h1.symm

abbrev at1024 (f : Vec F S1024x1024 .f32) (r j : ℕ) : F .f32 := f (mk2 1024 1024 (by decide) (by decide) r j)
abbrev at256a (f : Vec F S256x640 .f32) (r j : ℕ) : F .f32 := f (mk2 256 640 (by decide) (by decide) r j)
abbrev at256b (f : Vec F S256x384 .f32) (r j : ℕ) : F .f32 := f (mk2 256 384 (by decide) (by decide) r j)
abbrev at64a (f : Vec F S64x640 .f32) (r j : ℕ) : F .f32 := f (mk2 64 640 (by decide) (by decide) r j)
abbrev at64b (f : Vec F S64x384 .f32) (r j : ℕ) : F .f32 := f (mk2 64 384 (by decide) (by decide) r j)

set_option backward.proofsInPublic true in
/-- The first coordinate of an index of a landing buffer. -/
def slotNo {a b : ℕ} (i : (⟨3, ![4, a, b]⟩ : Shape).Idx) : Fin 4 := ⟨(i 0).val, (i 0).isLt⟩

variable (A : Dev nD → Vec F S1024x1024 .f32)

/-- The first landing buffer of half 0: the quarter of this device's place from every device of its plane. -/
def G10 (c : Dev nD) : Vec F S4x256x640 .f32 := fun i => at1024 (A (od 0 (slotNo i) (ic 0 c))) (256 * (oc 0 c).val + (i 1).val) (i 2).val
/-- The first landing buffer of half 1: the quarter of this device's plane from every device of its place. -/
def G11 (c : Dev nD) : Vec F S4x256x384 .f32 := fun i => at1024 (A (od 1 (slotNo i) (ic 1 c))) (256 * (oc 1 c).val + (i 1).val) (640 + (i 2).val)
/-- The quarters reduced along the outer coordinate. -/
def B0 (c : Dev nD) : Vec F S256x640 .f32 := k0_pay6 (G10 A c)
def B1 (c : Dev nD) : Vec F S256x384 .f32 := k0_pay8 (G11 A c)
/-- The second landing buffers: this device's block of the quarter, from every device along the inner coordinate. -/
def G20 (c : Dev nD) : Vec F S4x64x640 .f32 := fun i => at256a (B0 A (od 0 (oc 0 c) (slotNo i))) (64 * (ic 0 c).val + (i 1).val) (i 2).val
def G21 (c : Dev nD) : Vec F S4x64x384 .f32 := fun i => at256b (B1 A (od 1 (oc 1 c) (slotNo i))) (64 * (ic 1 c).val + (i 1).val) (i 2).val
/-- The blocks reduced over all the devices. -/
def C0 (c : Dev nD) : Vec F S64x640 .f32 := k0_pay10 (G20 A c)
def C1 (c : Dev nD) : Vec F S64x384 .f32 := k0_pay11 (G21 A c)

/-- The out buffer where a device's own quarter has been reduced along the outer coordinate. -/
def outB (c : Dev nD) : Vec F S1024x1024 .f32 := fun i =>
  if (i 1).val < 640 then at256a (B0 A c) ((i 0).val % 256) (i 1).val else at256b (B1 A c) ((i 0).val % 256) ((i 1).val - 640)

set_option backward.proofsInPublic true in
/-- The quarter and the block of a row. -/
def rowQ (i : S1024x1024.Idx) : Fin 4 := ⟨(i 0).val / 256 % 4, Nat.mod_lt _ (by decide)⟩
set_option backward.proofsInPublic true in
def rowK (i : S1024x1024.Idx) : Fin 4 := ⟨(i 0).val % 256 / 64 % 4, Nat.mod_lt _ (by decide)⟩

/-- The reduced matrix: every block from the device that reduced it. -/
def fin (i : S1024x1024.Idx) : F .f32 :=
  if (i 1).val < 640 then at64a (C0 A (od 0 (rowQ i) (rowK i))) ((i 0).val % 64) (i 1).val
  else at64b (C1 A (od 1 (rowQ i) (rowK i))) ((i 0).val % 64) ((i 1).val - 640)
abbrev finV : Vec F S1024x1024 .f32 := fin A

end Cert.Hier

end
-- ==== Proof.Schedule.lean ====
/-
The protocol: for every semaphore of a device, who pays it, how much, and what the payment hands over; what every
device owes at the start, and the order in which the debts are paid.
-/
module

public import proofs.«01_k».proof.Proof.Contents
public import Idealize.ShloMosaic.Lib.Pipeline.BigSepL

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The names of the payments of one semaphore: the barrier has six, every other semaphore the one `(0, false)`. -/
abbrev Duty : Type := Fin 3 × Bool
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A copy's semaphores: receiving or sending, the stage, the half, the offset. -/
abbrev XI : Type := Bool × Fin 4 × Fin 2 × Fin 3
/-- The semaphores of a device: the barrier, and those of the copies. -/
abbrev CI : Type := Option XI

set_option backward.proofsInPublic true in
/-- The number of a copy's semaphore. -/
def dsem (x : XI) : DmaSem sig :=
  ⟨(3 + 24 * x.2.2.1.val + 6 * x.2.1.val + (if x.1 then 3 else 0) + x.2.2.2.val) % 51, Nat.mod_lt _ (by decide)⟩
abbrev barS : Sem sig := (SemArray.scalar (sig.barrier 0 rfl) : Sems sig S_).sem
def semOf : CI → SemLoc sig
  | none => .reg barS
  | some x => .dma (dsem x)

set_option backward.proofsInPublic true in
/-- The copy whose semaphore has a given number. -/
def xiOf (n : ℕ) : XI :=
  (decide (3 ≤ (n - 3) % 6), ⟨(n - 3) % 24 / 6 % 4, Nat.mod_lt _ (by decide)⟩, ⟨(n - 3) / 24 % 2, Nat.mod_lt _ (by decide)⟩, ⟨(n - 3) % 3, Nat.mod_lt _ (by decide)⟩)
def ciOf : SemLoc sig → Option CI
  | .reg _ => some none
  | .dma s => if s.val < 3 then none else some (some (xiOf s.val))

theorem ciOf_semOf : ∀ x : CI, ciOf (semOf x) = some x := by decide +kernel
theorem semOf_inj : Function.Injective semOf := fun x y h => Option.some.inj ((ciOf_semOf x).symm.trans ((congrArg ciOf h).trans (ciOf_semOf y)))

abbrev cellAt (c : Dev nD) (x : CI) : GSem nD τ sig := ((c : Thread nD τ), semOf x)
abbrev sndX (s : Fin 4) (h : Fin 2) (o : Fin 3) : CI := some (false, s, h, o)
abbrev rcvX (s : Fin 4) (h : Fin 2) (o : Fin 3) : CI := some (true, s, h, o)

/-- The credit of one copy of a stage of a half. -/
def amt (s : Fin 4) (h : Fin 2) : ℕ := match s, h with
  | 0, 0 => (cc0_scratch0 : Ref sig .tc).dmaCredit S256x640 .f32
  | 0, 1 => (cc0_scratch2 : Ref sig .tc).dmaCredit S256x384 .f32
  | 1, 0 => (cc0_scratch1 : Ref sig .tc).dmaCredit S64x640 .f32
  | 1, 1 => (cc0_scratch3 : Ref sig .tc).dmaCredit S64x384 .f32
  | 2, 0 => (cc0_stg2_0 : Ref sig .tc).dmaCredit S64x640 .f32
  | 2, 1 => (cc0_stg2_0 : Ref sig .tc).dmaCredit S64x384 .f32
  | 3, 0 => (cc0_stg2_0 : Ref sig .tc).dmaCredit S256x640 .f32
  | 3, 1 => (cc0_stg2_0 : Ref sig .tc).dmaCredit S256x384 .f32
theorem amt_pos (s : Fin 4) (h : Fin 2) : 0 < amt s h := by
  fin_cases s <;> fin_cases h <;> exact sig.dmaCredit_pos _ _ _ _ _ (by decide)

/-- A share in three parts. -/
def sh3 (q : PosShare TreeShare) : Fin 3 → PosShare TreeShare
  | 0 => q.left
  | 1 => q.right.left
  | 2 => q.right.right

/-! ## Ownership of the parts of the buffers -/

/-- A part of a device's out buffer, at a share. -/
def oP (c : Dev nD) (R : Finset S1024x1024.Idx) (q : PosShare TreeShare) (f : Vec F S1024x1024 .f32) : sProp 𝕄 :=
  ((c : Thread nD τ).loc cc0_stg2_0) ↦[R]{q} f
/-- Slots of the four landing buffers, by stage and half. -/
def gP00 (c : Dev nD) (k : Fin 4) (f : Vec F S4x256x640 .f32) : sProp 𝕄 := ((c : Thread nD τ).loc cc0_scratch0) ↦[slot 256 640 k]{fullShare} f
def gP01 (c : Dev nD) (k : Fin 4) (f : Vec F S4x256x384 .f32) : sProp 𝕄 := ((c : Thread nD τ).loc cc0_scratch2) ↦[slot 256 384 k]{fullShare} f
def gP10 (c : Dev nD) (k : Fin 4) (f : Vec F S4x64x640 .f32) : sProp 𝕄 := ((c : Thread nD τ).loc cc0_scratch1) ↦[slot 64 640 k]{fullShare} f
def gP11 (c : Dev nD) (k : Fin 4) (f : Vec F S4x64x384 .f32) : sProp 𝕄 := ((c : Thread nD τ).loc cc0_scratch3) ↦[slot 64 384 k]{fullShare} f

instance oP_storable (c : Dev nD) (R q) (f) : BI.Storable (upEmb : UEmb _ 𝕄) (oP (F := F) c R q f) := by unfold oP; infer_instance
instance gP00_storable (c : Dev nD) (k) (f) : BI.Storable (upEmb : UEmb _ 𝕄) (gP00 (F := F) c k f) := by unfold gP00; infer_instance
instance gP01_storable (c : Dev nD) (k) (f) : BI.Storable (upEmb : UEmb _ 𝕄) (gP01 (F := F) c k f) := by unfold gP01; infer_instance
instance gP10_storable (c : Dev nD) (k) (f) : BI.Storable (upEmb : UEmb _ 𝕄) (gP10 (F := F) c k f) := by unfold gP10; infer_instance
instance gP11_storable (c : Dev nD) (k) (f) : BI.Storable (upEmb : UEmb _ 𝕄) (gP11 (F := F) c k f) := by unfold gP11; infer_instance

/-- A slot of a landing buffer at whatever it holds. -/
def slotE (s h : Fin 2) (c : Dev nD) (k : Fin 4) : sProp 𝕄 := match s, h with
  | 0, 0 => iprop(∃ f, gP00 (F := F) c k f)
  | 0, 1 => iprop(∃ f, gP01 (F := F) c k f)
  | 1, 0 => iprop(∃ f, gP10 (F := F) c k f)
  | 1, 1 => iprop(∃ f, gP11 (F := F) c k f)

instance slotE_storable (s h) (c : Dev nD) (k) : BI.Storable (upEmb : UEmb _ 𝕄) (slotE (F := F) s h c k) := by
  fin_cases s <;> fin_cases h <;> (unfold slotE; infer_instance)

/-! ## The payments -/

/-- What the barrier of a device receives from a peer: that peer's slots for this device. Payment `(o, b)` comes from the
    peer at the reversed offset, in the plane for `b = false`, in the same place of another plane for `b = true`. -/
def barPay (c : Dev nD) (d : Duty) : sProp 𝕄 :=
  if d.2 then iprop(slotE (F := F) 0 1 (zp c d.1.rev) (zc c) ∗ slotE (F := F) 1 0 (zp c d.1.rev) (zc c))
  else iprop(slotE (F := F) 0 0 (pl c d.1.rev) (pc c) ∗ slotE (F := F) 1 1 (pl c d.1.rev) (pc c))

variable (A : Dev nD → Vec F S1024x1024 .f32)

/-- What a landing hands over: stages 0 and 1 the slot with what landed, and the sender's source, which this device
    writes later; stages 2 and 3 the part of the out buffer with its final contents. -/
def rcvPay (s : Fin 4) (h : Fin 2) (o : Fin 3) (c : Dev nD) : sProp 𝕄 := match s, h with
  | 0, 0 => iprop(gP00 c (oc 0 (op 0 c o.rev)) (G10 A c) ∗ oP (op 0 c o.rev) (oQ 0 (oc 0 c)) fullShare (A (op 0 c o.rev)))
  | 0, 1 => iprop(gP01 c (oc 1 (op 1 c o.rev)) (G11 A c) ∗ oP (op 1 c o.rev) (oQ 1 (oc 1 c)) fullShare (A (op 1 c o.rev)))
  | 1, 0 => iprop(gP10 c (ic 0 (ip 0 c o.rev)) (G20 A c) ∗ oP (ip 0 c o.rev) (oK 0 (oc 0 c) (ic 0 c)) fullShare (outB A (ip 0 c o.rev)))
  | 1, 1 => iprop(gP11 c (ic 1 (ip 1 c o.rev)) (G21 A c) ∗ oP (ip 1 c o.rev) (oK 1 (oc 1 c) (ic 1 c)) fullShare (outB A (ip 1 c o.rev)))
  | 2, h => oP c (oK h (oc h c) (ic h (ip h c o.rev))) fullShare (finV A)
  | 3, h => oP c (oQ h (oc h (op h c o.rev))) fullShare (finV A)
/-- What a completed send gives back: nothing in stages 0 and 1, the share of the source in stages 2 and 3. -/
def sndPay (s : Fin 4) (h : Fin 2) (o : Fin 3) (c : Dev nD) : sProp 𝕄 := match s with
  | 0 => iprop(emp)
  | 1 => iprop(emp)
  | 2 => oP c (oK h (oc h c) (ic h c)) (sh3 fullShare.left o) (finV A)
  | 3 => oP c (oQ h (oc h c)) (sh3 fullShare.right o) (finV A)

instance barPay_storable (c : Dev nD) (d) : BI.Storable (upEmb : UEmb _ 𝕄) (barPay (F := F) c d) := by
  unfold barPay; split <;> infer_instance
instance rcvPay_storable (s h o) (c : Dev nD) : BI.Storable (upEmb : UEmb _ 𝕄) (rcvPay A s h o c) := by
  fin_cases s <;> fin_cases h <;> (unfold rcvPay; infer_instance)
instance sndPay_storable (s h o) (c : Dev nD) : BI.Storable (upEmb : UEmb _ 𝕄) (sndPay A s h o c) := by
  fin_cases s <;> (unfold sndPay; infer_instance)

def xPay (x : XI) (c : Dev nD) : sProp 𝕄 := if x.1 then rcvPay A x.2.1 x.2.2.1 x.2.2.2 c else sndPay A x.2.1 x.2.2.1 x.2.2.2 c
instance xPay_storable (x) (c : Dev nD) : BI.Storable (upEmb : UEmb _ 𝕄) (xPay A x c) := by unfold xPay; split <;> infer_instance

def dutiesOf : Option CI → Finset Duty
  | none => ∅
  | some none => Finset.univ
  | some (some _) => {(0, false)}
def amountOf' : Option CI → ℕ
  | some (some x) => amt x.2.1 x.2.2.1
  | _ => 1
def payOf (c : Dev nD) (d : Duty) : Option CI → sProp 𝕄
  | none => iprop(emp)
  | some none => barPay c d
  | some (some x) => xPay A x c

/-- The schedule: one round at every semaphore. -/
def Rd : Rounds.Schedule (GSem nD τ sig) Duty 𝕄 where
  duties g r := if r = 0 ∧ g.1.2 = .tc then dutiesOf (ciOf g.2) else ∅
  unitless _ := False
  amount g _ _ := amountOf' (ciOf g.2)
  payload g _ d := payOf A g.1.1 d (ciOf g.2)
  amount_pos g _ _ _ := by
    unfold amountOf'; split
    · exact amt_pos _ _
    · exact Nat.one_pos

instance Rd_payload_storable (g : GSem nD τ sig) (r : ℕ) (d : Duty) : BI.Storable (upEmb : UEmb _ 𝕄) ((Rd A).payload g r d) := by
  show BI.Storable upEmb (payOf A g.1.1 d (ciOf g.2))
  unfold payOf; split <;> infer_instance

section Facts
variable (c : Dev nD)

theorem duties_bar : (Rd A).duties (cellAt c none) 0 = Finset.univ := by
  dsimp only [Rd]; rw [if_pos ⟨rfl, rfl⟩, ciOf_semOf]; rfl
theorem duties_x (x : XI) : (Rd A).duties (cellAt c (some x)) 0 = {(0, false)} := by
  dsimp only [Rd]; rw [if_pos ⟨rfl, rfl⟩, ciOf_semOf]; rfl
theorem duties_later (g : GSem nD τ sig) : ∀ r, 1 ≤ r → (Rd A).duties g r = ∅ := fun r hr => by
  dsimp only [Rd]; exact if_neg fun h => by omega
theorem amount_bar (d : Duty) : (Rd A).amount (cellAt c none) 0 d = 1 := by dsimp only [Rd]; rw [ciOf_semOf]; rfl
theorem amount_x (x : XI) (d : Duty) : (Rd A).amount (cellAt c (some x)) 0 d = amt x.2.1 x.2.2.1 := by dsimp only [Rd]; rw [ciOf_semOf]; rfl
theorem payload_bar (d : Duty) : (Rd A).payload (cellAt c none) 0 d = barPay c d := by dsimp only [Rd]; rw [ciOf_semOf]; rfl
theorem payload_x (x : XI) (d : Duty) : (Rd A).payload (cellAt c (some x)) 0 d = xPay A x c := by dsimp only [Rd]; rw [ciOf_semOf]; rfl
theorem payload_rcv (s h o) (d : Duty) : (Rd A).payload (cellAt c (rcvX s h o)) 0 d = rcvPay A s h o c := payload_x A c _ d
theorem payload_snd (s h o) (d : Duty) : (Rd A).payload (cellAt c (sndX s h o)) 0 d = sndPay A s h o c := payload_x A c _ d

theorem expect_bar : (Rd A).expect (cellAt c none) 0 = 6 := by
  unfold Schedule.expect Schedule.amountOf
  rw [duties_bar, Finset.sum_congr rfl fun d _ => amount_bar A c d, Finset.sum_const]; rfl
theorem expect_x (x : XI) : (Rd A).expect (cellAt c (some x)) 0 = amt x.2.1 x.2.2.1 := by
  unfold Schedule.expect Schedule.amountOf; rw [duties_x, Finset.sum_singleton, amount_x]

theorem rest_bar : bigSep ((Rd A).duties (cellAt c none) 0 \ ∅) (fun d => (Rd A).payload (cellAt c none) 0 d)
    = bigSep Finset.univ fun d => barPay (F := F) c d := by
  rw [Finset.sdiff_empty, duties_bar]
  exact congrArg _ (funext fun d => payload_bar A c d)
theorem rest_x (x : XI) : bigSep ((Rd A).duties (cellAt c (some x)) 0 \ ∅) (fun d => (Rd A).payload (cellAt c (some x)) 0 d) = xPay A x c := by
  rw [Finset.sdiff_empty, duties_x, bigSep_singleton, payload_x]
end Facts

/-! ## The debts -/

/-- What a device owes: its six barrier signals, and the landings of its copies. -/
abbrev PI : Type := (Fin 3 × Bool) ⊕ (Fin 4 × Fin 2 × Fin 3)
def tgt : PI → Dev nD → Dev nD
  | .inl (o, false), c => pl c o
  | .inl (o, true), c => zp c o
  | .inr (s, h, o), c => peer s h c o
def inv : PI → Dev nD → Dev nD
  | .inl (o, false), c => pl c o.rev
  | .inl (o, true), c => zp c o.rev
  | .inr (s, h, o), c => peer s h c o.rev
def pci : PI → CI
  | .inl _ => none
  | .inr (s, h, o) => rcvX s h o
def pamt : PI → ℕ
  | .inl _ => 1
  | .inr (s, h, _) => amt s h
theorem tgt_inv : ∀ (i : PI) (c : Dev nD), tgt i (inv i c) = c := by
  rintro (⟨o, _ | _⟩ | ⟨s, h, o⟩) c
  · have := pl_rev c o.rev; rw [Fin.rev_rev] at this; exact this
  · have := zp_rev c o.rev; rw [Fin.rev_rev] at this; exact this
  · have := peer_rev s h c o.rev; rw [Fin.rev_rev] at this; exact this
theorem inv_tgt : ∀ (i : PI) (c : Dev nD), inv i (tgt i c) = c := by
  rintro (⟨o, _ | _⟩ | ⟨s, h, o⟩) c
  · exact pl_rev c o
  · exact zp_rev c o
  · exact peer_rev s h c o

def debt : List PI → Dev nD → CellTallies nD τ sig Unit
  | [], _ => 0
  | i :: l, c => debt l c + tallyAt (cellAt (tgt i c) (pci i)) () (pamt i)

/-- The three copies of a stage of a half. -/
abbrev grp (s : Fin 4) (h : Fin 2) (l : List PI) : List PI := .inr (s, h, 0) :: .inr (s, h, 1) :: .inr (s, h, 2) :: l
abbrev l8 : List PI := []
abbrev l7 : List PI := grp 3 1 l8
abbrev l6 : List PI := grp 3 0 l7
abbrev l5 : List PI := grp 2 1 l6
abbrev l4 : List PI := grp 2 0 l5
abbrev l3 : List PI := grp 1 1 l4
abbrev l2 : List PI := grp 1 0 l3
abbrev l1 : List PI := grp 0 1 l2
abbrev l0 : List PI := grp 0 0 l1
abbrev sigs : List PI := [.inl (0, false), .inl (0, true), .inl (1, false), .inl (1, true), .inl (2, false), .inl (2, true)]
abbrev lAll : List PI := .inl (0, false) :: .inl (0, true) :: .inl (1, false) :: .inl (1, true) :: .inl (2, false) :: .inl (2, true) :: l0

def lev : Option CI → ℕ
  | some none => 1
  | some (some (true, s, h, _)) => 2 + 2 * s.val + h.val
  | _ => 0
def L (g : GSem nD τ sig) : Finset Unit := if g.1.2 = .tc then {()} else ∅
def lv (g : GSem nD τ sig) (_ : Unit) : ℕ := lev (ciOf g.2)

theorem L_of_ne (g : GSem nD τ sig) (h : g.1.2 ≠ .tc) : L g = ∅ := if_neg h
theorem L_tc (c : Dev nD) (sm : SemLoc sig) : L ((c : Thread nD τ), sm) = {()} := if_pos rfl

theorem debt_pos {l : List PI} {c : Dev nD} {g : GSem nD τ sig} {u : Unit} (h : 0 < debt l c g u) : ∃ i ∈ l, g = cellAt (tgt i c) (pci i) := by
  induction l with
  | nil => exact absurd h (Nat.lt_irrefl 0)
  | cons i l ih =>
    unfold debt at h
    rw [Pi.add_apply, Finsupp.add_apply, tallyAt_apply] at h
    by_cases hg : g = cellAt (tgt i c) (pci i)
    · exact ⟨i, List.mem_cons_self, hg⟩
    · rw [if_neg (fun h' => hg h'.1), Nat.add_zero] at h
      obtain ⟨j, hj, e⟩ := ih h
      exact ⟨j, List.mem_cons_of_mem _ hj, e⟩

/-- A device may wait on a semaphore when all it owes lies at higher levels. -/
theorem mayWait_debt (c : Dev nD) (sm : SemLoc sig) (l : List PI) (hl : ∀ i ∈ l, lev (ciOf sm) < lev (some (pci i))) :
    (levAts L lv : sProp 𝕄) ⊢ MayWait (c : Thread nD τ) sm () (debt l c) :=
  MayOwe.of_cut (L := L) (lev := lv) (lev (ciOf sm)) (fun p hp => by rw [Finset.mem_singleton.mp hp, L_tc]; exact Finset.mem_singleton_self _)
    (fun g u hg => by obtain ⟨i, -, rfl⟩ := debt_pos hg; exact Finset.mem_singleton_self _)
    (fun p hp => by rw [Finset.mem_singleton.mp hp]; exact le_refl _)
    (fun g u hg => by
      obtain ⟨i, hi, rfl⟩ := debt_pos hg
      show lev (ciOf sm) < lev (ciOf (semOf (pci i)))
      rw [ciOf_semOf]; exact hl i hi)

/-- The credit that the other devices owe a device at the start. -/
theorem cred_debt (l : List PI) (c : Dev nD) :
    (Pipeline.launchCred (debt l) c : sProp 𝕄) ⊢ bigSepL l fun i => cred (tallyAt (cellAt c (pci i)) () (pamt i)) := by
  induction l with
  | nil =>
    rw [bigSepL_nil]
    exact Entails.of_eq (Pipeline.launchCred_zero c)
  | cons i l ih =>
    rw [bigSepL_cons']
    refine (Entails.of_eq (Pipeline.launchCred_add (debt l) (fun d => tallyAt (cellAt (tgt i d) (pci i)) () (pamt i)) c)).trans ?_
    iintro ⟨H1, H2⟩
    isplitl [H2]
    · iapply (Pipeline.launchCred_tallyAt (semOf (pci i)) (tgt i) (inv i) (tgt_inv i) (inv_tgt i) () (pamt i) c); iexact H2
    · iapply ih; iexact H1

end Cert.Hier

end
-- ==== Proof.Steps.lean ====
/-
One rule per kind of step of the kernel's protocol: a wait on a copy's semaphore, the copies of the first two stages,
which hand over their source with the landing, and the copies of the last two stages, which get their source back.
-/
module

public import proofs.«01_k».proof.Proof.Schedule

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (A : Dev nD → Vec F S1024x1024 .f32) (K : Dev nD × CI → ℕ)

/-! ## What every device knows -/

/-- Every semaphore's invariant, that every semaphore has reached its round, and the levels. -/
def recs : sProp 𝕄 :=
  iprop((bigSep Finset.univ fun x : Dev nD × CI => cellInv ER (Rd A) (K x) (cellAt x.1 x.2))
    ∗ (bigSep Finset.univ fun x : Dev nD × CI => reached ER (cellAt x.1 x.2) 0) ∗ levAts L lv)
instance recs_persistent : BI.Persistent (recs A K) := by unfold recs; infer_instance

theorem recs_inv (c : Dev nD) (x : CI) : recs A K ⊢ cellInv ER (Rd A) (K (c, x)) (cellAt c x) := by
  unfold recs
  iintro ⟨H, -, -⟩
  iapply (show (bigSep Finset.univ fun x : Dev nD × CI => cellInv ER (Rd A) (K x) (cellAt x.1 x.2)) ⊢ (cellInv ER (Rd A) (K (c, x)) (cellAt c x) : sProp 𝕄)
    from bigSep_elim (Finset.mem_univ (c, x)))
  iexact H
theorem recs_reached (c : Dev nD) (x : CI) : recs A K ⊢ reached ER (cellAt c x) 0 := by
  unfold recs
  iintro ⟨-, H, -⟩
  iapply (show (bigSep Finset.univ fun x : Dev nD × CI => reached ER (cellAt x.1 x.2) 0) ⊢ (reached ER (cellAt c x) 0 : sProp 𝕄)
    from bigSep_elim (Finset.mem_univ (c, x)))
  iexact H
theorem recs_lev : recs A K ⊢ (levAts L lv : sProp 𝕄) := by
  unfold recs; iintro ⟨-, -, H⟩; iexact H

set_option maxRecDepth 40000

/-- What a device still owes, whatever it has waited for. -/
def ow (c : Dev nD) (l : List PI) : sProp 𝕄 := iprop(∃ W, owes (c : Thread nD τ) (debt l c) W)

/-! ## Waits -/

/-- The right to wait on a copy's semaphore. -/
def cw (x : XI) (c : Dev nD) : sProp 𝕄 := iprop(cred (tallyAt (cellAt c (some x)) () (amt x.2.1 x.2.2.1)) ∗ atPos ER (cellAt c (some x)) 0 ∅ 0)
/-- A copy's semaphore at zero, its protocol finished. -/
def zv (x : XI) (c : Dev nD) : sProp 𝕄 := semVal (cellAt c (some x)) 0

theorem wp_dwait (c : Dev nD) (x : XI) (l : List PI) (hl : ∀ i ∈ l, lev (some (some x)) < lev (some (pci i))) (q : DmaSem sig) (hq : q = dsem x)
    {sp sp' : Space} {s s' : Shape} {src : Memref sig .tc sp' s' .f32} {dst : Memref sig .tc sp s .f32} {hsrc : src.view.WordExact} {hdst : dst.view.WordExact}
    (hN : dst.view.dmaCredit = amt x.2.1 x.2.2.1)
    {α : Type} {Q : α → sProp 𝕄} {k : PUnit → Prog (TpuEff nD τ sig (Elt F) Λ₀ .tc) α} :
    iprop(recs A K ∗ cw x c ∗ ow c l)
      ⊢ iprop(((ow c l ∗ zv x c ∗ xPay A x c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold cw ow zv
  iintro ⟨#HR, ⟨Hc, Hat⟩, %W, HO⟩ Hk
  ihave #HI := (recs_inv A K c (some x)) $$ HR
  ihave #HL := (recs_lev A K) $$ HR
  iapply (Rounds.wp_wait_rest_token 𝒱₀ ER (Rd A) (c : Thread nD τ) none (κ := K (c, some x))
      (wpE_waitDma2_eq 𝒱₀ (c : Thread nD τ) none Set.univ) (Set.mem_univ _) () (O := debt l c) (W := W) (R := 0) (m := 0) (T := ∅)
      (by rw [Nat.zero_add, hN]; exact (expect_x A c x).symm)) $$ [Hc HO Hat]
  · isplitr; · iexact HI
    isplitl [Hc]; · rw [hN]; iexact Hc
    isplitl [HO]; · iexact HO
    isplitr
    · iapply (mayWait_debt c (.dma (dsem x)) l (fun i hi => by
        have := ciOf_semOf (some x); rw [show semOf (some x) = .dma (dsem x) from rfl] at this
        rw [this]; exact hl i hi))
      iexact HL
    iexact Hat
  iintro ⟨HO, Hat, -, Hpay⟩
  ihave Hp := (show bigSep ((Rd A).duties ((c : Thread nD τ), SemLoc.dma (dsem x)) 0 \ ∅) (fun d => (Rd A).payload ((c : Thread nD τ), SemLoc.dma (dsem x)) 0 d) ⊢ xPay A x c
    from Entails.of_eq (rest_x A c x)) $$ Hpay
  imod (Rounds.cell_close ER (Rd A) (Set.mem_univ (K (c, some x))) (fun h => h) (R := 0 + 1) (duties_later A (cellAt c (some x)))) $$ [Hat] with Hz
  · isplitr; · iexact HI
    iexact Hat
  iapply Hk
  isplitl [HO]; · iexists _; iexact HO
  isplitl [Hz] <;> iassumption

/-- Three waits in a row on the semaphores of a stage of a half. -/
theorem wp_dwait3 (c : Dev nD) (b : Bool) (s : Fin 4) (h : Fin 2) (l : List PI) (hl : ∀ i ∈ l, lev (some (some (b, s, h, 0))) < lev (some (pci i)))
    (q0 q1 q2 : DmaSem sig) (hq0 : q0 = dsem (b, s, h, 0)) (hq1 : q1 = dsem (b, s, h, 1)) (hq2 : q2 = dsem (b, s, h, 2))
    {sp sp' : Space} {S S' : Shape} {src0 src1 src2 : Memref sig .tc sp' S' .f32} {dst0 dst1 dst2 : Memref sig .tc sp S .f32}
    {hs0 : src0.view.WordExact} {hs1 : src1.view.WordExact} {hs2 : src2.view.WordExact}
    {hd0 : dst0.view.WordExact} {hd1 : dst1.view.WordExact} {hd2 : dst2.view.WordExact}
    (hN0 : dst0.view.dmaCredit = amt s h) (hN1 : dst1.view.dmaCredit = amt s h) (hN2 : dst2.view.dmaCredit = amt s h)
    {α : Type} {Q : α → sProp 𝕄} {k : PUnit → Prog (TpuEff nD τ sig (Elt F) Λ₀ .tc) α} :
    iprop(recs A K ∗ (cw (b, s, h, 0) c ∗ cw (b, s, h, 1) c ∗ cw (b, s, h, 2) c) ∗ ow c l)
      ⊢ iprop(((ow c l ∗ (zv (b, s, h, 0) c ∗ zv (b, s, h, 1) c ∗ zv (b, s, h, 2) c) ∗ xPay A (b, s, h, 0) c ∗ xPay A (b, s, h, 1) c ∗ xPay A (b, s, h, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 dst0 hs0 hd0) fun _ => .op (.waitDma2 q1 src1 dst1 hs1 hd1) fun _ => .op (.waitDma2 q2 src2 dst2 hs2 hd2) k) Q) := by
  have hlev : ∀ o, lev (some (some (b, s, h, o))) = lev (some (some (b, s, h, 0))) := fun o => by cases b <;> rfl
  iintro ⟨#HR, ⟨H0, H1, H2⟩, HO⟩ Hk
  iapply (wp_dwait A K c (b, s, h, 0) l hl q0 hq0 hN0) $$ [H0 HO]
  · isplitr; · iexact HR
    isplitl [H0] <;> iassumption
  iintro ⟨HO, Z0, P0⟩
  iapply (wp_dwait A K c (b, s, h, 1) l (fun i hi => by rw [hlev]; exact hl i hi) q1 hq1 hN1) $$ [H1 HO]
  · isplitr; · iexact HR
    isplitl [H1] <;> iassumption
  iintro ⟨HO, Z1, P1⟩
  iapply (wp_dwait A K c (b, s, h, 2) l (fun i hi => by rw [hlev]; exact hl i hi) q2 hq2 hN2) $$ [H2 HO]
  · isplitr; · iexact HR
    isplitl [H2] <;> iassumption
  iintro ⟨HO, Z2, P2⟩
  iapply Hk
  isplitl [HO]; · iexact HO
  isplitl [Z0 Z1 Z2]
  · isplitl [Z0]; · iexact Z0
    isplitl [Z1] <;> iassumption
  isplitl [P0]; · iexact P0
  isplitl [P1] <;> iassumption

/-! ## Copies -/

theorem mem_duty (c : Dev nD) (x : XI) : (0, false) ∈ (Rd A).duties (cellAt c (some x)) 0 := by
  rw [duties_x]; exact Finset.mem_singleton_self _

/-- The right to make a copy: its two payments, and the place of its sending semaphore. -/
def tk (s : Fin 4) (h : Fin 2) (o : Fin 3) (c : Dev nD) : sProp 𝕄 :=
  iprop(dutyTok ER (cellAt c (sndX s h o)) 0 (0, false) ∗ dutyTok ER (cellAt (peer s h c o) (rcvX s h o)) 0 (0, false)
    ∗ atPos ER (cellAt c (sndX s h o)) 0 ∅ 0)

/-- A copy that hands its source over with the landing. -/
theorem wp_send_over (c n : Dev nD) (s : Fin 4) (h : Fin 2) (o : Fin 3) (hn : n = peer s h c o) (l : List PI)
    (qs qr : DmaSem sig) (hqs : qs = dsem (false, s, h, o)) (hqr : qr = dsem (true, s, h, o))
    {sp sp' : Space} {S : Shape} {src : Memref sig .tc sp S .f32} {dst : Memref sig (Dev.tc n : Thread nD τ).2.kind sp' S .f32}
    {hsc : dst.view.ref.isScScratch = false} {hsrc : src.view.WordExact} {hdst : dst.view.WordExact}
    {hsem : DmaTarget.Typed sp (.dma qr) (.remote (Dev.tc n : Thread nD τ) dst (.dma qs) hsc)}
    (hN : dst.view.dmaCredit = amt s h) (fs : Buf (Elt F) (src.view.loc (c : Thread nD τ))) (fd : Buf (Elt F) (dst.view.loc (n : Thread nD τ)))
    (hp1 : (emp : sProp 𝕄) ⊢ sndPay A s h o c)
    (hp2 : iprop((dst.view.loc (n : Thread nD τ) ↦[dst.view.set]{fullShare} dst.view.write (Elt F) fd (src.view.read (Elt F) fs) Finset.univ)
        ∗ (src.view.loc (c : Thread nD τ) ↦[src.view.set]{fullShare} fs)) ⊢ rcvPay A s h o n)
    {α : Type} {Q : α → sProp 𝕄} {k : PUnit → Prog (TpuEff nD τ sig (Elt F) Λ₀ .tc) α} :
    iprop(recs A K ∗ (src.view.loc (c : Thread nD τ) ↦[src.view.set]{fullShare} fs) ∗ (dst.view.loc (n : Thread nD τ) ↦[dst.view.set]{fullShare} fd)
        ∗ tk s h o c ∗ ow c (.inr (s, h, o) :: l))
      ⊢ iprop(((cw (false, s, h, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc n : Thread nD τ) dst (.dma qs) hsc) (.dma qr) hsrc hdst hsem) k) Q) := by
  subst hn hqs hqr
  unfold tk ow cw
  iintro ⟨#HR, Hs, Hd, ⟨T1, T2, Hat⟩, %W, HO⟩ Hk
  ihave #I1 := (recs_inv A K c (sndX s h o)) $$ HR
  ihave #I2 := (recs_inv A K (peer s h c o) (rcvX s h o)) $$ HR
  ihave #R1 := (recs_reached A K c (sndX s h o)) $$ HR
  ihave #R2 := (recs_reached A K (peer s h c o) (rcvX s h o)) $$ HR
  iapply (Rounds.wp_send_landing_pointsTo 𝒱₀ ER (Rd A) (c : Thread nD τ) none (κ₁ := K (c, sndX s h o)) (κ₂ := K (peer s h c o, rcvX s h o))
      (r₁ := 0) (r₂ := 0) (d₁ := (0, false)) (d₂ := (0, false)) (fs := fs) (fd := fd)
      (mem_duty A c (false, s, h, o))
      (mem_duty A (peer s h c o) (true, s, h, o))
      () () (amt s h) (show dst.view.amount (.dma (dsem (true, s, h, o))) = amt s h from hN) (amount_x A c (false, s, h, o) _) (amount_x A (peer s h c o) (true, s, h, o) _) (debt l c) rfl (W := W)
      (hp1.trans (Entails.of_eq (payload_snd A c s h o _).symm)) (hp2.trans (Entails.of_eq (payload_rcv A _ s h o _).symm))) $$ [Hs Hd T1 T2 HO]
  · isplitr; · iexact I1
    isplitr; · iexact I2
    isplitl [Hs]; · iexact Hs
    isplitl [Hd]; · iexact Hd
    isplitl [HO]; · iexact HO
    isplitl [T1]; · iexact T1
    isplitr; · iexact R1
    isplitl [T2]; · iexact T2
    iexact R2
  iintro ⟨Hc, HO⟩
  iapply Hk
  isplitl [Hc Hat]
  · isplitl [Hc] <;> iassumption
  iexists _; iexact HO

/-- A copy that gets its source's share back. -/
theorem wp_send_back (c n : Dev nD) (s : Fin 4) (h : Fin 2) (o : Fin 3) (hn : n = peer s h c o) (l : List PI)
    (qs qr : DmaSem sig) (hqs : qs = dsem (false, s, h, o)) (hqr : qr = dsem (true, s, h, o))
    {sp sp' : Space} {S : Shape} {src : Memref sig .tc sp S .f32} {dst : Memref sig (Dev.tc n : Thread nD τ).2.kind sp' S .f32}
    {hsc : dst.view.ref.isScScratch = false} {hsrc : src.view.WordExact} {hdst : dst.view.WordExact}
    {hsem : DmaTarget.Typed sp (.dma qr) (.remote (Dev.tc n : Thread nD τ) dst (.dma qs) hsc)}
    (hN : dst.view.dmaCredit = amt s h) (q : PosShare TreeShare) (fs : Buf (Elt F) (src.view.loc (c : Thread nD τ))) (fd : Buf (Elt F) (dst.view.loc (n : Thread nD τ)))
    (hp1 : (src.view.loc (c : Thread nD τ) ↦[src.view.set]{q} fs) ⊢ sndPay A s h o c)
    (hp2 : (dst.view.loc (n : Thread nD τ) ↦[dst.view.set]{fullShare} dst.view.write (Elt F) fd (src.view.read (Elt F) fs) Finset.univ) ⊢ rcvPay A s h o n)
    {α : Type} {Q : α → sProp 𝕄} {k : PUnit → Prog (TpuEff nD τ sig (Elt F) Λ₀ .tc) α} :
    iprop(recs A K ∗ (src.view.loc (c : Thread nD τ) ↦[src.view.set]{q} fs) ∗ (dst.view.loc (n : Thread nD τ) ↦[dst.view.set]{fullShare} fd)
        ∗ tk s h o c ∗ ow c (.inr (s, h, o) :: l))
      ⊢ iprop(((cw (false, s, h, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc n : Thread nD τ) dst (.dma qs) hsc) (.dma qr) hsrc hdst hsem) k) Q) := by
  subst hn hqs hqr
  unfold tk ow cw
  iintro ⟨#HR, Hs, Hd, ⟨T1, T2, Hat⟩, %W, HO⟩ Hk
  ihave #I1 := (recs_inv A K c (sndX s h o)) $$ HR
  ihave #I2 := (recs_inv A K (peer s h c o) (rcvX s h o)) $$ HR
  ihave #R1 := (recs_reached A K c (sndX s h o)) $$ HR
  ihave #R2 := (recs_reached A K (peer s h c o) (rcvX s h o)) $$ HR
  iapply (Rounds.wp_send_pointsTo 𝒱₀ ER (Rd A) (c : Thread nD τ) none (κ₁ := K (c, sndX s h o)) (κ₂ := K (peer s h c o, rcvX s h o))
      (r₁ := 0) (r₂ := 0) (d₁ := (0, false)) (d₂ := (0, false)) (fs := fs) (fd := fd)
      (mem_duty A c (false, s, h, o))
      (mem_duty A (peer s h c o) (true, s, h, o))
      () () (amt s h) (show dst.view.amount (.dma (dsem (true, s, h, o))) = amt s h from hN) (amount_x A c (false, s, h, o) _) (amount_x A (peer s h c o) (true, s, h, o) _) (debt l c) rfl (W := W)
      (hp1.trans (Entails.of_eq (payload_snd A c s h o _).symm)) (hp2.trans (Entails.of_eq (payload_rcv A _ s h o _).symm))) $$ [Hs Hd T1 T2 HO]
  · isplitr; · iexact I1
    isplitr; · iexact I2
    isplitl [Hs]; · iexact Hs
    isplitl [Hd]; · iexact Hd
    isplitl [HO]; · iexact HO
    isplitl [T1]; · iexact T1
    isplitr; · iexact R1
    isplitl [T2]; · iexact T2
    iexact R2
  iintro ⟨Hc, HO⟩
  iapply Hk
  isplitl [Hc Hat]
  · isplitl [Hc] <;> iassumption
  iexists _; iexact HO

end Cert.Hier

end
-- ==== Proof.Moves.lean ====
/-
The copies of the four stages, in both halves: which part of which buffer each one reads and writes, and that what
lands is what the protocol promises.
-/
module

public import proofs.«01_k».proof.Proof.Steps
public import Idealize.ShloMosaic.Lib.ViewIndex

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S1024x1024 .f32) (K : Dev nD × CI → ℕ)

set_option maxRecDepth 40000

/-! ## The parts as memrefs -/

/-- A rectangle of the out buffer. -/
abbrev oM (sz off : Fin 2 → ℕ) (inb : ∀ a, off a + sz a ≤ S1024x1024.size a) : Memref sig .tc .vmem (⟨2, sz⟩ : Shape) .f32 :=
  (Memref.whole cc0_stg2_0).slice (Rect.unit (s := S1024x1024) off sz inb) (fun _ => rfl)
/-- One slot of each landing buffer. -/
abbrev gM00 (off : Fin 3 → ℕ) (inb : ∀ a, off a + S1x256x640.size a ≤ S4x256x640.size a) : Memref sig .tc .vmem S256x640 .f32 :=
  ((Memref.whole cc0_scratch0).slice (Rect.unit (s := S4x256x640) off S1x256x640.size inb) (fun _ => rfl)).squeeze S256x640 squeezes_S1x256x640_S256x640
abbrev gM01 (off : Fin 3 → ℕ) (inb : ∀ a, off a + S1x256x384.size a ≤ S4x256x384.size a) : Memref sig .tc .vmem S256x384 .f32 :=
  ((Memref.whole cc0_scratch2).slice (Rect.unit (s := S4x256x384) off S1x256x384.size inb) (fun _ => rfl)).squeeze S256x384 squeezes_S1x256x384_S256x384
abbrev gM10 (off : Fin 3 → ℕ) (inb : ∀ a, off a + S1x64x640.size a ≤ S4x64x640.size a) : Memref sig .tc .vmem S64x640 .f32 :=
  ((Memref.whole cc0_scratch1).slice (Rect.unit (s := S4x64x640) off S1x64x640.size inb) (fun _ => rfl)).squeeze S64x640 squeezes_S1x64x640_S64x640
abbrev gM11 (off : Fin 3 → ℕ) (inb : ∀ a, off a + S1x64x384.size a ≤ S4x64x384.size a) : Memref sig .tc .vmem S64x384 .f32 :=
  ((Memref.whole cc0_scratch3).slice (Rect.unit (s := S4x64x384) off S1x64x384.size inb) (fun _ => rfl)).squeeze S64x384 squeezes_S1x64x384_S64x384

theorem set_oM {sz off inb} {R : Finset S1024x1024.Idx} (h : (Rect.unit (s := S1024x1024) off sz inb).set = R) : (oM sz off inb).view.set = R :=
  (View.set_slice_whole cc0_stg2_0 _).trans h
theorem set_gM00 {off inb} (k : Fin 4) (h : off = ![k.val, 0, 0]) : (gM00 off inb).view.set = slot 256 640 k :=
  (View.set_reshape _ _).trans ((View.set_slice_whole cc0_scratch0 _).trans (set_slot k h))
theorem set_gM01 {off inb} (k : Fin 4) (h : off = ![k.val, 0, 0]) : (gM01 off inb).view.set = slot 256 384 k :=
  (View.set_reshape _ _).trans ((View.set_slice_whole cc0_scratch2 _).trans (set_slot k h))
theorem set_gM10 {off inb} (k : Fin 4) (h : off = ![k.val, 0, 0]) : (gM10 off inb).view.set = slot 64 640 k :=
  (View.set_reshape _ _).trans ((View.set_slice_whole cc0_scratch1 _).trans (set_slot k h))
theorem set_gM11 {off inb} (k : Fin 4) (h : off = ![k.val, 0, 0]) : (gM11 off inb).view.set = slot 64 384 k :=
  (View.set_reshape _ _).trans ((View.set_slice_whole cc0_scratch3 _).trans (set_slot k h))

/-- What a memref reads of the out buffer. -/
theorem read_oM {a b : ℕ} {off : Fin 2 → ℕ} {inb} (f : Vec F S1024x1024 .f32) (x : (⟨2, ![a, b]⟩ : Shape).Idx) (r j : ℕ) (hoff : off = ![r, j])
    (i : S1024x1024.Idx) (h0 : (i 0).val = r + (x 0).val) (h1 : (i 1).val = j + (x 1).val) :
    (oM ![a, b] off inb).view.read (Elt F) f x = f i := by
  subst hoff
  refine congrArg f (idx_ext2 ?_ ?_)
  · rw [h0]; show r + 1 * (x 0).val = _; rw [Nat.one_mul]
  · rw [h1]; show j + 1 * (x 1).val = _; rw [Nat.one_mul]

/-- A squeezed index behind its leading zero. -/
theorem unsqueeze {a b : ℕ} (h : (⟨2, ![a, b]⟩ : Shape).numel = (⟨3, ![1, a, b]⟩ : Shape).numel) (x : (⟨2, ![a, b]⟩ : Shape).Idx) :
    (Shape.reshapeEquiv h x 0).val = 0 ∧ (Shape.reshapeEquiv h x 1).val = (x 0).val ∧ (Shape.reshapeEquiv h x 2).val = (x 1).val := by
  have := Shape.reshapeEquiv_cons_one (d := ![a, b]) h x
  refine ⟨?_, ?_, ?_⟩ <;> rw [this] <;> rfl

/-- The index of a landing buffer that a squeezed slot's index names. -/
def slotIdx {a b : ℕ} (k : Fin 4) (x : (⟨2, ![a, b]⟩ : Shape).Idx) : (⟨3, ![4, a, b]⟩ : Shape).Idx := fun y => match y with
  | ⟨0, _⟩ => k
  | ⟨1, _⟩ => x 0
  | ⟨2, _⟩ => x 1

theorem read_gM00 {off inb} (k : Fin 4) (h : off = ![k.val, 0, 0]) (g : Vec F S4x256x640 .f32) (x : S256x640.Idx) :
    (gM00 off inb).view.read (Elt F) g x = g (slotIdx k x) := by
  subst h
  obtain ⟨e0, e1, e2⟩ := unsqueeze (Shape.Squeezes.numel_eq squeezes_S1x256x640_S256x640) x
  refine congrArg g (Shape.idx3_ext ?_ ?_ ?_)
  · show k.val + 1 * (Shape.reshapeEquiv _ x 0).val = k.val; rw [e0]; omega
  · show 0 + 1 * (Shape.reshapeEquiv _ x 1).val = (x 0).val; rw [e1]; omega
  · show 0 + 1 * (Shape.reshapeEquiv _ x 2).val = (x 1).val; rw [e2]; omega
theorem read_gM01 {off inb} (k : Fin 4) (h : off = ![k.val, 0, 0]) (g : Vec F S4x256x384 .f32) (x : S256x384.Idx) :
    (gM01 off inb).view.read (Elt F) g x = g (slotIdx k x) := by
  subst h
  obtain ⟨e0, e1, e2⟩ := unsqueeze (Shape.Squeezes.numel_eq squeezes_S1x256x384_S256x384) x
  refine congrArg g (Shape.idx3_ext ?_ ?_ ?_)
  · show k.val + 1 * (Shape.reshapeEquiv _ x 0).val = k.val; rw [e0]; omega
  · show 0 + 1 * (Shape.reshapeEquiv _ x 1).val = (x 0).val; rw [e1]; omega
  · show 0 + 1 * (Shape.reshapeEquiv _ x 2).val = (x 1).val; rw [e2]; omega
theorem read_gM10 {off inb} (k : Fin 4) (h : off = ![k.val, 0, 0]) (g : Vec F S4x64x640 .f32) (x : S64x640.Idx) :
    (gM10 off inb).view.read (Elt F) g x = g (slotIdx k x) := by
  subst h
  obtain ⟨e0, e1, e2⟩ := unsqueeze (Shape.Squeezes.numel_eq squeezes_S1x64x640_S64x640) x
  refine congrArg g (Shape.idx3_ext ?_ ?_ ?_)
  · show k.val + 1 * (Shape.reshapeEquiv _ x 0).val = k.val; rw [e0]; omega
  · show 0 + 1 * (Shape.reshapeEquiv _ x 1).val = (x 0).val; rw [e1]; omega
  · show 0 + 1 * (Shape.reshapeEquiv _ x 2).val = (x 1).val; rw [e2]; omega
theorem read_gM11 {off inb} (k : Fin 4) (h : off = ![k.val, 0, 0]) (g : Vec F S4x64x384 .f32) (x : S64x384.Idx) :
    (gM11 off inb).view.read (Elt F) g x = g (slotIdx k x) := by
  subst h
  obtain ⟨e0, e1, e2⟩ := unsqueeze (Shape.Squeezes.numel_eq squeezes_S1x64x384_S64x384) x
  refine congrArg g (Shape.idx3_ext ?_ ?_ ?_)
  · show k.val + 1 * (Shape.reshapeEquiv _ x 0).val = k.val; rw [e0]; omega
  · show 0 + 1 * (Shape.reshapeEquiv _ x 1).val = (x 0).val; rw [e1]; omega
  · show 0 + 1 * (Shape.reshapeEquiv _ x 2).val = (x 1).val; rw [e2]; omega

/-- What is written through a view agrees with a contents that reads the same. -/
theorem write_agrees {κ : Kind} {sp : Space} {s : Shape} {e : EltTy} (v : View sig κ sp s e) (fd g : v.ty.Contents (Elt F)) (w : s.Idx → Elt F e)
    (h : ∀ x, v.read (Elt F) g x = w x) : ∀ i ∈ v.set, v.write (Elt F) fd w Finset.univ i = g i := by
  intro i hi
  obtain ⟨x, -, rfl⟩ := Finset.mem_map.mp hi
  exact View.eq_of_read_eq (by rw [View.read_write_univ, h])

/-! ## What the sources hold -/

section Sources
variable (c : Dev nD) (o : Fin 3)

theorem G10_at (x : S256x640.Idx) : G10 A (op 0 c o) (slotIdx (oc 0 c) x) = at1024 (A c) (256 * (adv (oc 0 c) o).val + (x 0).val) (x 1).val := by
  show at1024 (A (od 0 (oc 0 c) (ic 0 (op 0 c o)))) (256 * (oc 0 (op 0 c o)).val + (x 0).val) (x 1).val = _
  rw [ic_op, oc_op, od_eta]
theorem G11_at (x : S256x384.Idx) : G11 A (op 1 c o) (slotIdx (oc 1 c) x) = at1024 (A c) (256 * (adv (oc 1 c) o).val + (x 0).val) (640 + (x 1).val) := by
  show at1024 (A (od 1 (oc 1 c) (ic 1 (op 1 c o)))) (256 * (oc 1 (op 1 c o)).val + (x 0).val) (640 + (x 1).val) = _
  rw [ic_op, oc_op, od_eta]
theorem G20_at (x : S64x640.Idx) : G20 A (ip 0 c o) (slotIdx (ic 0 c) x) = at256a (B0 A c) (64 * (adv (ic 0 c) o).val + (x 0).val) (x 1).val := by
  show at256a (B0 A (od 0 (oc 0 (ip 0 c o)) (ic 0 c))) (64 * (ic 0 (ip 0 c o)).val + (x 0).val) (x 1).val = _
  rw [oc_ip, ic_ip, od_eta]
theorem G21_at (x : S64x384.Idx) : G21 A (ip 1 c o) (slotIdx (ic 1 c) x) = at256b (B1 A c) (64 * (adv (ic 1 c) o).val + (x 0).val) (x 1).val := by
  show at256b (B1 A (od 1 (oc 1 (ip 1 c o)) (ic 1 c))) (64 * (ic 1 (ip 1 c o)).val + (x 0).val) (x 1).val = _
  rw [oc_ip, ic_ip, od_eta]
end Sources

/-- Reading a matrix at numbers within it. -/
theorem at1024_eq (f : Vec F S1024x1024 .f32) {r j : ℕ} (i : S1024x1024.Idx) (h0 : (i 0).val = r) (h1 : (i 1).val = j) : f i = at1024 f r j :=
  congrArg f (mk2_eq (by rw [h0, Nat.mod_eq_of_lt (h0 ▸ lt0 i)]) (by rw [h1, Nat.mod_eq_of_lt (h1 ▸ lt1 i)])).symm

theorem read_A0 (f : Vec F S1024x1024 .f32) {off : Fin 2 → ℕ} (r j : ℕ) (hoff : off = ![r, j]) {a b : ℕ} {inb} (hr : r + a ≤ 1024) (hj : j + b ≤ 1024)
    (x : (⟨2, ![a, b]⟩ : Shape).Idx) : (oM ![a, b] off inb).view.read (Elt F) f x = at1024 f (r + (x 0).val) (j + (x 1).val) := by
  have e0 : (x 0).val < a := (x 0).isLt
  have e1 : (x 1).val < b := (x 1).isLt
  exact read_oM f x r j hoff _ (Nat.mod_eq_of_lt (by omega)) (Nat.mod_eq_of_lt (by omega))

theorem outB_left (c : Dev nD) {r j r' : ℕ} (hr : r < 1024) (hj : j < 640) (e : r % 256 = r' % 256) : at1024 (outB A c) r j = at256a (B0 A c) r' j := by
  have hj' : j % 1024 = j := Nat.mod_eq_of_lt (by omega)
  have hr' : r % 1024 = r := Nat.mod_eq_of_lt hr
  show (if j % 1024 < 640 then at256a (B0 A c) (r % 1024 % 256) (j % 1024) else _) = _
  rw [hj', if_pos hj, hr']
  exact congrArg (B0 A c) (idx_ext2 (by show r % 256 % 256 = r' % 256; omega) rfl)
theorem outB_right (c : Dev nD) {r j r' : ℕ} (hr : r < 1024) (hj : j < 384) (e : r % 256 = r' % 256) : at1024 (outB A c) r (640 + j) = at256b (B1 A c) r' j := by
  have hj' : (640 + j) % 1024 = 640 + j := Nat.mod_eq_of_lt (by omega)
  have hr' : r % 1024 = r := Nat.mod_eq_of_lt hr
  show (if (640 + j) % 1024 < 640 then _ else at256b (B1 A c) (r % 1024 % 256) ((640 + j) % 1024 - 640)) = _
  rw [hj', if_neg (by omega), hr']
  exact congrArg (B1 A c) (idx_ext2 (by show r % 256 % 256 = r' % 256; omega) (by show (640 + j - 640) % 384 = j % 384; rw [Nat.add_sub_cancel_left]))

/-! ## What lands -/

section Lands
variable (c : Dev nD) (o : Fin 3)

theorem op_rev (h : Fin 2) : op h (op h c o) o.rev = c := peer_rev 0 h c o
theorem ip_rev (h : Fin 2) : ip h (ip h c o) o.rev = c := peer_rev 1 h c o

theorem rcv00 : rcvPay A 0 0 o (op 0 c o) = iprop(gP00 (op 0 c o) (oc 0 c) (G10 A (op 0 c o)) ∗ oP c (oQ 0 (adv (oc 0 c) o)) fullShare (A c)) := by
  unfold rcvPay; dsimp only; rw [op_rev, oc_op]
theorem rcv01 : rcvPay A 0 1 o (op 1 c o) = iprop(gP01 (op 1 c o) (oc 1 c) (G11 A (op 1 c o)) ∗ oP c (oQ 1 (adv (oc 1 c) o)) fullShare (A c)) := by
  unfold rcvPay; dsimp only; rw [op_rev, oc_op]
theorem rcv10 : rcvPay A 1 0 o (ip 0 c o) = iprop(gP10 (ip 0 c o) (ic 0 c) (G20 A (ip 0 c o)) ∗ oP c (oK 0 (oc 0 c) (adv (ic 0 c) o)) fullShare (outB A c)) := by
  unfold rcvPay; dsimp only; rw [ip_rev, oc_ip, ic_ip]
theorem rcv11 : rcvPay A 1 1 o (ip 1 c o) = iprop(gP11 (ip 1 c o) (ic 1 c) (G21 A (ip 1 c o)) ∗ oP c (oK 1 (oc 1 c) (adv (ic 1 c) o)) fullShare (outB A c)) := by
  unfold rcvPay; dsimp only; rw [ip_rev, oc_ip, ic_ip]
theorem rcv2 (h : Fin 2) : rcvPay A 2 h o (ip h c o) = oP (ip h c o) (oK h (oc h c) (ic h c)) fullShare (finV A) := by
  unfold rcvPay; dsimp only; rw [ip_rev, oc_ip]
theorem rcv3 (h : Fin 2) : rcvPay A 3 h o (op h c o) = oP (op h c o) (oQ h (oc h c)) fullShare (finV A) := by
  unfold rcvPay; dsimp only; rw [op_rev]
end Lands

/-! ## The copies -/

section Sends
variable (c n : Dev nD) (o : Fin 3) (l : List PI) (qs qr : DmaSem sig)

theorem wp_s00 (hn : n = peer 0 0 c o) (hqs : qs = dsem (false, 0, 0, o)) (hqr : qr = dsem (true, 0, 0, o)) {offS : Fin 2 → ℕ} {offD : Fin 3 → ℕ}
    (hS : offS = ![256 * (adv (oc 0 c) o).val, 0]) (hD : offD = ![(oc 0 c).val, 0, 0]) {inbS inbD}
    {hsc : (gM00 offD inbD).view.ref.isScScratch = false} {hsrc : (oM S256x640.size offS inbS).view.WordExact} {hdst : (gM00 offD inbD).view.WordExact}
    {hsem : DmaTarget.Typed .vmem (.dma qr) (.remote (Dev.tc n : Thread nD τ) (gM00 offD inbD) (.dma qs) hsc)}
    {α : Type} {Q : α → sProp 𝕄} {k : PUnit → Prog (TpuEff nD τ sig (Elt F) Λ₀ .tc) α} :
    iprop(recs A K ∗ oP c (oQ 0 (adv (oc 0 c) o)) fullShare (A c) ∗ slotE (F := F) 0 0 (op 0 c o) (oc 0 c) ∗ tk 0 0 o c ∗ ow c (.inr (0, 0, o) :: l))
      ⊢ iprop(((cw (false, 0, 0, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x640.size offS inbS) (.remote (Dev.tc n : Thread nD τ) (gM00 offD inbD) (.dma qs) hsc) (.dma qr) hsrc hdst hsem) k) Q) := by
  subst hn
  have eS : (oM S256x640.size offS inbS).view.set = (oQ 0 (adv (oc 0 c) o)) := set_oM (set_oQ0 _ hS)
  have eD : (gM00 offD inbD).view.set = slot 256 640 (oc 0 c) := set_gM00 _ hD
  have hrow : 256 * (adv (oc 0 c) o).val + 256 ≤ 1024 := by omega
  have hSr : ((oM S256x640.size offS inbS).view.loc (c : Thread nD τ) ↦[(oM S256x640.size offS inbS).view.set]{fullShare} (A c) : sProp 𝕄) = oP c (oQ 0 (adv (oc 0 c) o)) fullShare (A c) := by
    rw [eS]; rfl
  have hL : ∀ fd, ((gM00 offD inbD).view.loc ((op 0 c o : Dev nD) : Thread nD τ) ↦[(gM00 offD inbD).view.set]{fullShare}
      (gM00 offD inbD).view.write (Elt F) fd ((oM S256x640.size offS inbS).view.read (Elt F) (A c)) Finset.univ : sProp 𝕄)
      = gP00 (op 0 c o) (oc 0 c) (G10 A (op 0 c o)) := fun fd => by
    rw [pointsTo_congr (write_agrees (gM00 offD inbD).view fd (G10 A (op 0 c o)) _ fun x => by
      rw [read_gM00 (oc 0 c) hD, G10_at, read_A0 (A c) _ _ hS hrow (by decide : 0 + 640 ≤ 1024)]; rw [Nat.zero_add]), eD]; rfl
  unfold slotE
  iintro ⟨#HR, Hs, ⟨%fd, Hd⟩, Ht, HO⟩ Hk
  iapply (wp_send_over A K c (op 0 c o) 0 0 o rfl l qs qr hqs hqr (src := oM S256x640.size offS inbS) (dst := gM00 offD inbD) rfl (A c) fd
      (Entails.refl _) (Entails.of_eq ((congrArg₂ BI.sep (hL fd) hSr).trans (rcv00 A c o).symm))) $$ [Hs Hd Ht HO]
  · isplitr; · iexact HR
    isplitl [Hs]; · iapply (Entails.of_eq (show oP c (oQ 0 (adv (oc 0 c) o)) fullShare (A c) = ((oM S256x640.size offS inbS).view.loc (c : Thread nD τ) ↦[(oM S256x640.size offS inbS).view.set]{fullShare} (A c)) by rw [eS]; rfl)); iexact Hs
    isplitl [Hd]; · iapply (Entails.of_eq (show gP00 (op 0 c o) (oc 0 c) fd = ((gM00 offD inbD).view.loc ((op 0 c o : Dev nD) : Thread nD τ) ↦[(gM00 offD inbD).view.set]{fullShare} fd) by rw [eD]; rfl)); iexact Hd
    isplitl [Ht] <;> iassumption
  · iexact Hk

theorem wp_s01 (hn : n = peer 0 1 c o) (hqs : qs = dsem (false, 0, 1, o)) (hqr : qr = dsem (true, 0, 1, o)) {offS : Fin 2 → ℕ} {offD : Fin 3 → ℕ}
    (hS : offS = ![256 * (adv (oc 1 c) o).val, 640]) (hD : offD = ![(oc 1 c).val, 0, 0]) {inbS inbD}
    {hsc : (gM01 offD inbD).view.ref.isScScratch = false} {hsrc : (oM S256x384.size offS inbS).view.WordExact} {hdst : (gM01 offD inbD).view.WordExact}
    {hsem : DmaTarget.Typed .vmem (.dma qr) (.remote (Dev.tc n : Thread nD τ) (gM01 offD inbD) (.dma qs) hsc)}
    {α : Type} {Q : α → sProp 𝕄} {k : PUnit → Prog (TpuEff nD τ sig (Elt F) Λ₀ .tc) α} :
    iprop(recs A K ∗ oP c (oQ 1 (adv (oc 1 c) o)) fullShare (A c) ∗ slotE (F := F) 0 1 (op 1 c o) (oc 1 c) ∗ tk 0 1 o c ∗ ow c (.inr (0, 1, o) :: l))
      ⊢ iprop(((cw (false, 0, 1, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x384.size offS inbS) (.remote (Dev.tc n : Thread nD τ) (gM01 offD inbD) (.dma qs) hsc) (.dma qr) hsrc hdst hsem) k) Q) := by
  subst hn
  have eS : (oM S256x384.size offS inbS).view.set = (oQ 1 (adv (oc 1 c) o)) := set_oM (set_oQ1 _ hS)
  have eD : (gM01 offD inbD).view.set = slot 256 384 (oc 1 c) := set_gM01 _ hD
  have hrow : 256 * (adv (oc 1 c) o).val + 256 ≤ 1024 := by omega
  have hSr : ((oM S256x384.size offS inbS).view.loc (c : Thread nD τ) ↦[(oM S256x384.size offS inbS).view.set]{fullShare} (A c) : sProp 𝕄) = oP c (oQ 1 (adv (oc 1 c) o)) fullShare (A c) := by
    rw [eS]; rfl
  have hL : ∀ fd, ((gM01 offD inbD).view.loc ((op 1 c o : Dev nD) : Thread nD τ) ↦[(gM01 offD inbD).view.set]{fullShare}
      (gM01 offD inbD).view.write (Elt F) fd ((oM S256x384.size offS inbS).view.read (Elt F) (A c)) Finset.univ : sProp 𝕄)
      = gP01 (op 1 c o) (oc 1 c) (G11 A (op 1 c o)) := fun fd => by
    rw [pointsTo_congr (write_agrees (gM01 offD inbD).view fd (G11 A (op 1 c o)) _ fun x => by
      rw [read_gM01 (oc 1 c) hD, G11_at, read_A0 (A c) _ _ hS hrow (by decide : 640 + 384 ≤ 1024)]), eD]; rfl
  unfold slotE
  iintro ⟨#HR, Hs, ⟨%fd, Hd⟩, Ht, HO⟩ Hk
  iapply (wp_send_over A K c (op 1 c o) 0 1 o rfl l qs qr hqs hqr (src := oM S256x384.size offS inbS) (dst := gM01 offD inbD) rfl (A c) fd
      (Entails.refl _) (Entails.of_eq ((congrArg₂ BI.sep (hL fd) hSr).trans (rcv01 A c o).symm))) $$ [Hs Hd Ht HO]
  · isplitr; · iexact HR
    isplitl [Hs]; · iapply (Entails.of_eq (show oP c (oQ 1 (adv (oc 1 c) o)) fullShare (A c) = ((oM S256x384.size offS inbS).view.loc (c : Thread nD τ) ↦[(oM S256x384.size offS inbS).view.set]{fullShare} (A c)) by rw [eS]; rfl)); iexact Hs
    isplitl [Hd]; · iapply (Entails.of_eq (show gP01 (op 1 c o) (oc 1 c) fd = ((gM01 offD inbD).view.loc ((op 1 c o : Dev nD) : Thread nD τ) ↦[(gM01 offD inbD).view.set]{fullShare} fd) by rw [eD]; rfl)); iexact Hd
    isplitl [Ht] <;> iassumption
  · iexact Hk

theorem wp_s10 (hn : n = peer 1 0 c o) (hqs : qs = dsem (false, 1, 0, o)) (hqr : qr = dsem (true, 1, 0, o)) {offS : Fin 2 → ℕ} {offD : Fin 3 → ℕ}
    (hS : offS = ![256 * (oc 0 c).val + 64 * (adv (ic 0 c) o).val, 0]) (hD : offD = ![(ic 0 c).val, 0, 0]) {inbS inbD}
    {hsc : (gM10 offD inbD).view.ref.isScScratch = false} {hsrc : (oM S64x640.size offS inbS).view.WordExact} {hdst : (gM10 offD inbD).view.WordExact}
    {hsem : DmaTarget.Typed .vmem (.dma qr) (.remote (Dev.tc n : Thread nD τ) (gM10 offD inbD) (.dma qs) hsc)}
    {α : Type} {Q : α → sProp 𝕄} {k : PUnit → Prog (TpuEff nD τ sig (Elt F) Λ₀ .tc) α} :
    iprop(recs A K ∗ oP c (oK 0 (oc 0 c) (adv (ic 0 c) o)) fullShare (outB A c) ∗ slotE (F := F) 1 0 (ip 0 c o) (ic 0 c) ∗ tk 1 0 o c ∗ ow c (.inr (1, 0, o) :: l))
      ⊢ iprop(((cw (false, 1, 0, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x640.size offS inbS) (.remote (Dev.tc n : Thread nD τ) (gM10 offD inbD) (.dma qs) hsc) (.dma qr) hsrc hdst hsem) k) Q) := by
  subst hn
  have eS : (oM S64x640.size offS inbS).view.set = (oK 0 (oc 0 c) (adv (ic 0 c) o)) := set_oM (set_oK0 _ _ hS)
  have eD : (gM10 offD inbD).view.set = slot 64 640 (ic 0 c) := set_gM10 _ hD
  have hrow : 256 * (oc 0 c).val + 64 * (adv (ic 0 c) o).val + 64 ≤ 1024 := by omega
  have hSr : ((oM S64x640.size offS inbS).view.loc (c : Thread nD τ) ↦[(oM S64x640.size offS inbS).view.set]{fullShare} (outB A c) : sProp 𝕄) = oP c (oK 0 (oc 0 c) (adv (ic 0 c) o)) fullShare (outB A c) := by
    rw [eS]; rfl
  have hL : ∀ fd, ((gM10 offD inbD).view.loc ((ip 0 c o : Dev nD) : Thread nD τ) ↦[(gM10 offD inbD).view.set]{fullShare}
      (gM10 offD inbD).view.write (Elt F) fd ((oM S64x640.size offS inbS).view.read (Elt F) (outB A c)) Finset.univ : sProp 𝕄)
      = gP10 (ip 0 c o) (ic 0 c) (G20 A (ip 0 c o)) := fun fd => by
    rw [pointsTo_congr (write_agrees (gM10 offD inbD).view fd (G20 A (ip 0 c o)) _ fun x => by
      have x0 : (x 0).val < 64 := (x 0).isLt
      have x1 : (x 1).val < 640 := (x 1).isLt
      rw [read_gM10 (ic 0 c) hD, G20_at, read_A0 (outB A c) _ _ hS hrow (by decide : 0 + 640 ≤ 1024), Nat.zero_add]
      exact (outB_left A c (by omega) x1 (by omega)).symm), eD]; rfl
  unfold slotE
  iintro ⟨#HR, Hs, ⟨%fd, Hd⟩, Ht, HO⟩ Hk
  iapply (wp_send_over A K c (ip 0 c o) 1 0 o rfl l qs qr hqs hqr (src := oM S64x640.size offS inbS) (dst := gM10 offD inbD) rfl (outB A c) fd
      (Entails.refl _) (Entails.of_eq ((congrArg₂ BI.sep (hL fd) hSr).trans (rcv10 A c o).symm))) $$ [Hs Hd Ht HO]
  · isplitr; · iexact HR
    isplitl [Hs]; · iapply (Entails.of_eq (show oP c (oK 0 (oc 0 c) (adv (ic 0 c) o)) fullShare (outB A c) = ((oM S64x640.size offS inbS).view.loc (c : Thread nD τ) ↦[(oM S64x640.size offS inbS).view.set]{fullShare} (outB A c)) by rw [eS]; rfl)); iexact Hs
    isplitl [Hd]; · iapply (Entails.of_eq (show gP10 (ip 0 c o) (ic 0 c) fd = ((gM10 offD inbD).view.loc ((ip 0 c o : Dev nD) : Thread nD τ) ↦[(gM10 offD inbD).view.set]{fullShare} fd) by rw [eD]; rfl)); iexact Hd
    isplitl [Ht] <;> iassumption
  · iexact Hk

theorem wp_s11 (hn : n = peer 1 1 c o) (hqs : qs = dsem (false, 1, 1, o)) (hqr : qr = dsem (true, 1, 1, o)) {offS : Fin 2 → ℕ} {offD : Fin 3 → ℕ}
    (hS : offS = ![256 * (oc 1 c).val + 64 * (adv (ic 1 c) o).val, 640]) (hD : offD = ![(ic 1 c).val, 0, 0]) {inbS inbD}
    {hsc : (gM11 offD inbD).view.ref.isScScratch = false} {hsrc : (oM S64x384.size offS inbS).view.WordExact} {hdst : (gM11 offD inbD).view.WordExact}
    {hsem : DmaTarget.Typed .vmem (.dma qr) (.remote (Dev.tc n : Thread nD τ) (gM11 offD inbD) (.dma qs) hsc)}
    {α : Type} {Q : α → sProp 𝕄} {k : PUnit → Prog (TpuEff nD τ sig (Elt F) Λ₀ .tc) α} :
    iprop(recs A K ∗ oP c (oK 1 (oc 1 c) (adv (ic 1 c) o)) fullShare (outB A c) ∗ slotE (F := F) 1 1 (ip 1 c o) (ic 1 c) ∗ tk 1 1 o c ∗ ow c (.inr (1, 1, o) :: l))
      ⊢ iprop(((cw (false, 1, 1, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x384.size offS inbS) (.remote (Dev.tc n : Thread nD τ) (gM11 offD inbD) (.dma qs) hsc) (.dma qr) hsrc hdst hsem) k) Q) := by
  subst hn
  have eS : (oM S64x384.size offS inbS).view.set = (oK 1 (oc 1 c) (adv (ic 1 c) o)) := set_oM (set_oK1 _ _ hS)
  have eD : (gM11 offD inbD).view.set = slot 64 384 (ic 1 c) := set_gM11 _ hD
  have hrow : 256 * (oc 1 c).val + 64 * (adv (ic 1 c) o).val + 64 ≤ 1024 := by omega
  have hSr : ((oM S64x384.size offS inbS).view.loc (c : Thread nD τ) ↦[(oM S64x384.size offS inbS).view.set]{fullShare} (outB A c) : sProp 𝕄) = oP c (oK 1 (oc 1 c) (adv (ic 1 c) o)) fullShare (outB A c) := by
    rw [eS]; rfl
  have hL : ∀ fd, ((gM11 offD inbD).view.loc ((ip 1 c o : Dev nD) : Thread nD τ) ↦[(gM11 offD inbD).view.set]{fullShare}
      (gM11 offD inbD).view.write (Elt F) fd ((oM S64x384.size offS inbS).view.read (Elt F) (outB A c)) Finset.univ : sProp 𝕄)
      = gP11 (ip 1 c o) (ic 1 c) (G21 A (ip 1 c o)) := fun fd => by
    rw [pointsTo_congr (write_agrees (gM11 offD inbD).view fd (G21 A (ip 1 c o)) _ fun x => by
      have x0 : (x 0).val < 64 := (x 0).isLt
      have x1 : (x 1).val < 384 := (x 1).isLt
      rw [read_gM11 (ic 1 c) hD, G21_at, read_A0 (outB A c) _ _ hS hrow (by decide : 640 + 384 ≤ 1024)]
      exact (outB_right A c (by omega) x1 (by omega)).symm), eD]; rfl
  unfold slotE
  iintro ⟨#HR, Hs, ⟨%fd, Hd⟩, Ht, HO⟩ Hk
  iapply (wp_send_over A K c (ip 1 c o) 1 1 o rfl l qs qr hqs hqr (src := oM S64x384.size offS inbS) (dst := gM11 offD inbD) rfl (outB A c) fd
      (Entails.refl _) (Entails.of_eq ((congrArg₂ BI.sep (hL fd) hSr).trans (rcv11 A c o).symm))) $$ [Hs Hd Ht HO]
  · isplitr; · iexact HR
    isplitl [Hs]; · iapply (Entails.of_eq (show oP c (oK 1 (oc 1 c) (adv (ic 1 c) o)) fullShare (outB A c) = ((oM S64x384.size offS inbS).view.loc (c : Thread nD τ) ↦[(oM S64x384.size offS inbS).view.set]{fullShare} (outB A c)) by rw [eS]; rfl)); iexact Hs
    isplitl [Hd]; · iapply (Entails.of_eq (show gP11 (ip 1 c o) (ic 1 c) fd = ((gM11 offD inbD).view.loc ((ip 1 c o : Dev nD) : Thread nD τ) ↦[(gM11 offD inbD).view.set]{fullShare} fd) by rw [eD]; rfl)); iexact Hd
    isplitl [Ht] <;> iassumption
  · iexact Hk

theorem wp_s20 (hn : n = peer 2 0 c o) (hqs : qs = dsem (false, 2, 0, o)) (hqr : qr = dsem (true, 2, 0, o)) {off : Fin 2 → ℕ}
    (hS : off = ![256 * (oc 0 c).val + 64 * (ic 0 c).val, 0]) (fd : Vec F S1024x1024 .f32) {inb}
    {hsc : (oM S64x640.size off inb).view.ref.isScScratch = false} {hsrc : (oM S64x640.size off inb).view.WordExact} {hdst : (oM S64x640.size off inb).view.WordExact}
    {hsem : DmaTarget.Typed .vmem (.dma qr) (.remote (Dev.tc n : Thread nD τ) (oM S64x640.size off inb) (.dma qs) hsc)}
    {α : Type} {Q : α → sProp 𝕄} {k : PUnit → Prog (TpuEff nD τ sig (Elt F) Λ₀ .tc) α} :
    iprop(recs A K ∗ oP c (oK 0 (oc 0 c) (ic 0 c)) (sh3 fullShare.left o) (finV A) ∗ oP (ip 0 c o) (oK 0 (oc 0 c) (ic 0 c)) fullShare fd ∗ tk 2 0 o c ∗ ow c (.inr (2, 0, o) :: l))
      ⊢ iprop(((cw (false, 2, 0, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x640.size off inb) (.remote (Dev.tc n : Thread nD τ) (oM S64x640.size off inb) (.dma qs) hsc) (.dma qr) hsrc hdst hsem) k) Q) := by
  subst hn
  have eS : (oM S64x640.size off inb).view.set = (oK 0 (oc 0 c) (ic 0 c)) := set_oM (set_oK0 _ _ hS)
  iintro ⟨#HR, Hs, Hd, Ht, HO⟩ Hk
  iapply (wp_send_back A K c (ip 0 c o) 2 0 o rfl l qs qr hqs hqr (src := oM S64x640.size off inb) (dst := oM S64x640.size off inb) rfl (sh3 fullShare.left o) (finV A) fd
      (Entails.of_eq (by rw [eS]; rfl))
      ((Entails.of_eq (pointsTo_congr (write_agrees (oM S64x640.size off inb).view fd (finV A) _ fun x => rfl))).trans
        (Entails.of_eq (by rw [eS, rcv2]; rfl)))) $$ [Hs Hd Ht HO]
  · isplitr; · iexact HR
    isplitl [Hs]; · iapply (Entails.of_eq (show oP c (oK 0 (oc 0 c) (ic 0 c)) (sh3 fullShare.left o) (finV A) = ((oM S64x640.size off inb).view.loc (c : Thread nD τ) ↦[(oM S64x640.size off inb).view.set]{(sh3 fullShare.left o)} finV A) by rw [eS]; rfl)); iexact Hs
    isplitl [Hd]; · iapply (Entails.of_eq (show oP (ip 0 c o) (oK 0 (oc 0 c) (ic 0 c)) fullShare fd = ((oM S64x640.size off inb).view.loc ((ip 0 c o : Dev nD) : Thread nD τ) ↦[(oM S64x640.size off inb).view.set]{fullShare} fd) by rw [eS]; rfl)); iexact Hd
    isplitl [Ht] <;> iassumption
  · iexact Hk

theorem wp_s21 (hn : n = peer 2 1 c o) (hqs : qs = dsem (false, 2, 1, o)) (hqr : qr = dsem (true, 2, 1, o)) {off : Fin 2 → ℕ}
    (hS : off = ![256 * (oc 1 c).val + 64 * (ic 1 c).val, 640]) (fd : Vec F S1024x1024 .f32) {inb}
    {hsc : (oM S64x384.size off inb).view.ref.isScScratch = false} {hsrc : (oM S64x384.size off inb).view.WordExact} {hdst : (oM S64x384.size off inb).view.WordExact}
    {hsem : DmaTarget.Typed .vmem (.dma qr) (.remote (Dev.tc n : Thread nD τ) (oM S64x384.size off inb) (.dma qs) hsc)}
    {α : Type} {Q : α → sProp 𝕄} {k : PUnit → Prog (TpuEff nD τ sig (Elt F) Λ₀ .tc) α} :
    iprop(recs A K ∗ oP c (oK 1 (oc 1 c) (ic 1 c)) (sh3 fullShare.left o) (finV A) ∗ oP (ip 1 c o) (oK 1 (oc 1 c) (ic 1 c)) fullShare fd ∗ tk 2 1 o c ∗ ow c (.inr (2, 1, o) :: l))
      ⊢ iprop(((cw (false, 2, 1, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x384.size off inb) (.remote (Dev.tc n : Thread nD τ) (oM S64x384.size off inb) (.dma qs) hsc) (.dma qr) hsrc hdst hsem) k) Q) := by
  subst hn
  have eS : (oM S64x384.size off inb).view.set = (oK 1 (oc 1 c) (ic 1 c)) := set_oM (set_oK1 _ _ hS)
  iintro ⟨#HR, Hs, Hd, Ht, HO⟩ Hk
  iapply (wp_send_back A K c (ip 1 c o) 2 1 o rfl l qs qr hqs hqr (src := oM S64x384.size off inb) (dst := oM S64x384.size off inb) rfl (sh3 fullShare.left o) (finV A) fd
      (Entails.of_eq (by rw [eS]; rfl))
      ((Entails.of_eq (pointsTo_congr (write_agrees (oM S64x384.size off inb).view fd (finV A) _ fun x => rfl))).trans
        (Entails.of_eq (by rw [eS, rcv2]; rfl)))) $$ [Hs Hd Ht HO]
  · isplitr; · iexact HR
    isplitl [Hs]; · iapply (Entails.of_eq (show oP c (oK 1 (oc 1 c) (ic 1 c)) (sh3 fullShare.left o) (finV A) = ((oM S64x384.size off inb).view.loc (c : Thread nD τ) ↦[(oM S64x384.size off inb).view.set]{(sh3 fullShare.left o)} finV A) by rw [eS]; rfl)); iexact Hs
    isplitl [Hd]; · iapply (Entails.of_eq (show oP (ip 1 c o) (oK 1 (oc 1 c) (ic 1 c)) fullShare fd = ((oM S64x384.size off inb).view.loc ((ip 1 c o : Dev nD) : Thread nD τ) ↦[(oM S64x384.size off inb).view.set]{fullShare} fd) by rw [eS]; rfl)); iexact Hd
    isplitl [Ht] <;> iassumption
  · iexact Hk

theorem wp_s30 (hn : n = peer 3 0 c o) (hqs : qs = dsem (false, 3, 0, o)) (hqr : qr = dsem (true, 3, 0, o)) {off : Fin 2 → ℕ}
    (hS : off = ![256 * (oc 0 c).val, 0]) (fd : Vec F S1024x1024 .f32) {inb}
    {hsc : (oM S256x640.size off inb).view.ref.isScScratch = false} {hsrc : (oM S256x640.size off inb).view.WordExact} {hdst : (oM S256x640.size off inb).view.WordExact}
    {hsem : DmaTarget.Typed .vmem (.dma qr) (.remote (Dev.tc n : Thread nD τ) (oM S256x640.size off inb) (.dma qs) hsc)}
    {α : Type} {Q : α → sProp 𝕄} {k : PUnit → Prog (TpuEff nD τ sig (Elt F) Λ₀ .tc) α} :
    iprop(recs A K ∗ oP c (oQ 0 (oc 0 c)) (sh3 fullShare.right o) (finV A) ∗ oP (op 0 c o) (oQ 0 (oc 0 c)) fullShare fd ∗ tk 3 0 o c ∗ ow c (.inr (3, 0, o) :: l))
      ⊢ iprop(((cw (false, 3, 0, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x640.size off inb) (.remote (Dev.tc n : Thread nD τ) (oM S256x640.size off inb) (.dma qs) hsc) (.dma qr) hsrc hdst hsem) k) Q) := by
  subst hn
  have eS : (oM S256x640.size off inb).view.set = (oQ 0 (oc 0 c)) := set_oM (set_oQ0 _ hS)
  iintro ⟨#HR, Hs, Hd, Ht, HO⟩ Hk
  iapply (wp_send_back A K c (op 0 c o) 3 0 o rfl l qs qr hqs hqr (src := oM S256x640.size off inb) (dst := oM S256x640.size off inb) rfl (sh3 fullShare.right o) (finV A) fd
      (Entails.of_eq (by rw [eS]; rfl))
      ((Entails.of_eq (pointsTo_congr (write_agrees (oM S256x640.size off inb).view fd (finV A) _ fun x => rfl))).trans
        (Entails.of_eq (by rw [eS, rcv3]; rfl)))) $$ [Hs Hd Ht HO]
  · isplitr; · iexact HR
    isplitl [Hs]; · iapply (Entails.of_eq (show oP c (oQ 0 (oc 0 c)) (sh3 fullShare.right o) (finV A) = ((oM S256x640.size off inb).view.loc (c : Thread nD τ) ↦[(oM S256x640.size off inb).view.set]{(sh3 fullShare.right o)} finV A) by rw [eS]; rfl)); iexact Hs
    isplitl [Hd]; · iapply (Entails.of_eq (show oP (op 0 c o) (oQ 0 (oc 0 c)) fullShare fd = ((oM S256x640.size off inb).view.loc ((op 0 c o : Dev nD) : Thread nD τ) ↦[(oM S256x640.size off inb).view.set]{fullShare} fd) by rw [eS]; rfl)); iexact Hd
    isplitl [Ht] <;> iassumption
  · iexact Hk

theorem wp_s31 (hn : n = peer 3 1 c o) (hqs : qs = dsem (false, 3, 1, o)) (hqr : qr = dsem (true, 3, 1, o)) {off : Fin 2 → ℕ}
    (hS : off = ![256 * (oc 1 c).val, 640]) (fd : Vec F S1024x1024 .f32) {inb}
    {hsc : (oM S256x384.size off inb).view.ref.isScScratch = false} {hsrc : (oM S256x384.size off inb).view.WordExact} {hdst : (oM S256x384.size off inb).view.WordExact}
    {hsem : DmaTarget.Typed .vmem (.dma qr) (.remote (Dev.tc n : Thread nD τ) (oM S256x384.size off inb) (.dma qs) hsc)}
    {α : Type} {Q : α → sProp 𝕄} {k : PUnit → Prog (TpuEff nD τ sig (Elt F) Λ₀ .tc) α} :
    iprop(recs A K ∗ oP c (oQ 1 (oc 1 c)) (sh3 fullShare.right o) (finV A) ∗ oP (op 1 c o) (oQ 1 (oc 1 c)) fullShare fd ∗ tk 3 1 o c ∗ ow c (.inr (3, 1, o) :: l))
      ⊢ iprop(((cw (false, 3, 1, o) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x384.size off inb) (.remote (Dev.tc n : Thread nD τ) (oM S256x384.size off inb) (.dma qs) hsc) (.dma qr) hsrc hdst hsem) k) Q) := by
  subst hn
  have eS : (oM S256x384.size off inb).view.set = (oQ 1 (oc 1 c)) := set_oM (set_oQ1 _ hS)
  iintro ⟨#HR, Hs, Hd, Ht, HO⟩ Hk
  iapply (wp_send_back A K c (op 1 c o) 3 1 o rfl l qs qr hqs hqr (src := oM S256x384.size off inb) (dst := oM S256x384.size off inb) rfl (sh3 fullShare.right o) (finV A) fd
      (Entails.of_eq (by rw [eS]; rfl))
      ((Entails.of_eq (pointsTo_congr (write_agrees (oM S256x384.size off inb).view fd (finV A) _ fun x => rfl))).trans
        (Entails.of_eq (by rw [eS, rcv3]; rfl)))) $$ [Hs Hd Ht HO]
  · isplitr; · iexact HR
    isplitl [Hs]; · iapply (Entails.of_eq (show oP c (oQ 1 (oc 1 c)) (sh3 fullShare.right o) (finV A) = ((oM S256x384.size off inb).view.loc (c : Thread nD τ) ↦[(oM S256x384.size off inb).view.set]{(sh3 fullShare.right o)} finV A) by rw [eS]; rfl)); iexact Hs
    isplitl [Hd]; · iapply (Entails.of_eq (show oP (op 1 c o) (oQ 1 (oc 1 c)) fullShare fd = ((oM S256x384.size off inb).view.loc ((op 1 c o : Dev nD) : Thread nD τ) ↦[(oM S256x384.size off inb).view.set]{fullShare} fd) by rw [eS]; rfl)); iexact Hd
    isplitl [Ht] <;> iassumption
  · iexact Hk

end Sends

end Cert.Hier

end
-- ==== Proof.Stores.lean ====
/-
The loads and stores between the copies: a device's own part put into its own slot of a landing buffer, and a landing
buffer reduced into the device's own part of the out buffer.
-/
module

public import proofs.«01_k».proof.Proof.Moves
public import Idealize.ShloMosaic.Lib.Pipeline.Value

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S1024x1024 .f32)

set_option maxRecDepth 40000

/-! ## The values stored -/

/-- A matrix with a leading axis of extent one added, read at an index. -/
theorem addUnit_at {a b : ℕ} (v : (⟨2, ![a, b]⟩ : Shape).Idx → F .f32) (h1 h2 h3) (x : (⟨3, ![1, a, b]⟩ : Shape).Idx) (y : (⟨2, ![a, b]⟩ : Shape).Idx)
    (e0 : (y 0).val = (x 1).val) (e1 : (y 1).val = (x 2).val) :
    shapeCast (⟨3, ![1, a, b]⟩ : Shape) (shapeCast (⟨3, ![1, a, b]⟩ : Shape) (shapeCast (⟨2, ![a, b]⟩ : Shape) v h1) h2) h3 x = v y := by
  rw [shapeCast_self, shapeCast_self]
  refine (shapeCast_addUnit_apply ![a, b] v h2 x).trans (congrArg v (idx_ext2 ?_ ?_))
  · exact e0.symm
  · exact e1.symm

theorem k0_pay4_at (v : Vec F S256x640 .f32) (x : S1x256x640.Idx) (y : S256x640.Idx) (e0 : (y 0).val = (x 1).val) (e1 : (y 1).val = (x 2).val) : k0_pay4 v x = v y :=
  addUnit_at v _ _ _ x y e0 e1
theorem k0_pay5_at (v : Vec F S256x384 .f32) (x : S1x256x384.Idx) (y : S256x384.Idx) (e0 : (y 0).val = (x 1).val) (e1 : (y 1).val = (x 2).val) : k0_pay5 v x = v y :=
  addUnit_at v _ _ _ x y e0 e1
theorem k0_pay7_at (v : Vec F S64x640 .f32) (x : S1x64x640.Idx) (y : S64x640.Idx) (e0 : (y 0).val = (x 1).val) (e1 : (y 1).val = (x 2).val) : k0_pay7 v x = v y :=
  addUnit_at v _ _ _ x y e0 e1
theorem k0_pay9_at (v : Vec F S64x384 .f32) (x : S1x64x384.Idx) (y : S64x384.Idx) (e0 : (y 0).val = (x 1).val) (e1 : (y 1).val = (x 2).val) : k0_pay9 v x = v y :=
  addUnit_at v _ _ _ x y e0 e1

theorem finV_left (c : Dev nD) {i j : ℕ} (hi : i < 64) (hj : j < 640) :
    at1024 (finV A) (256 * (oc 0 c).val + 64 * (ic 0 c).val + i) j = at64a (C0 A c) i j := by
  have hq := (oc 0 c).isLt
  have hk := (ic 0 c).isLt
  have hj' : j % 1024 = j := Nat.mod_eq_of_lt (by omega)
  have hr' : (256 * (oc 0 c).val + 64 * (ic 0 c).val + i) % 1024 = 256 * (oc 0 c).val + 64 * (ic 0 c).val + i := Nat.mod_eq_of_lt (by omega)
  set m := mk2 1024 1024 (by decide) (by decide) (256 * (oc 0 c).val + 64 * (ic 0 c).val + i) j with hm
  have m0 : (m 0).val = 256 * (oc 0 c).val + 64 * (ic 0 c).val + i := hr'
  have m1 : (m 1).val = j := hj'
  show fin A m = _
  have eq : rowQ m = oc 0 c := Fin.ext (by show (m 0).val / 256 % 4 = _; rw [m0]; omega)
  have ek : rowK m = ic 0 c := Fin.ext (by show (m 0).val % 256 / 64 % 4 = _; rw [m0]; omega)
  unfold fin
  rw [m1, if_pos hj, eq, ek, od_eta, m0]
  exact congrArg (C0 A c) (idx_ext2 (by show _ % 64 % 64 = i % 64; omega) rfl)
theorem finV_right (c : Dev nD) {i j : ℕ} (hi : i < 64) (hj : j < 384) :
    at1024 (finV A) (256 * (oc 1 c).val + 64 * (ic 1 c).val + i) (640 + j) = at64b (C1 A c) i j := by
  have hq := (oc 1 c).isLt
  have hk := (ic 1 c).isLt
  have hj' : (640 + j) % 1024 = 640 + j := Nat.mod_eq_of_lt (by omega)
  have hr' : (256 * (oc 1 c).val + 64 * (ic 1 c).val + i) % 1024 = 256 * (oc 1 c).val + 64 * (ic 1 c).val + i := Nat.mod_eq_of_lt (by omega)
  set m := mk2 1024 1024 (by decide) (by decide) (256 * (oc 1 c).val + 64 * (ic 1 c).val + i) (640 + j) with hm
  have m0 : (m 0).val = 256 * (oc 1 c).val + 64 * (ic 1 c).val + i := hr'
  have m1 : (m 1).val = 640 + j := hj'
  show fin A m = _
  have eq : rowQ m = oc 1 c := Fin.ext (by show (m 0).val / 256 % 4 = _; rw [m0]; omega)
  have ek : rowK m = ic 1 c := Fin.ext (by show (m 0).val % 256 / 64 % 4 = _; rw [m0]; omega)
  unfold fin
  rw [m1, if_neg (by omega), eq, ek, od_eta, m0]
  exact congrArg (C1 A c) (idx_ext2 (by show _ % 64 % 64 = i % 64; omega) (by show (640 + j - 640) % 384 = j % 384; rw [Nat.add_sub_cancel_left]))

/-- A part of the out buffer, as the points-to of a rectangle's view. -/
theorem oP_view {sz off : Fin 2 → ℕ} {inb} {R : Finset S1024x1024.Idx} (h : (Rect.unit (s := S1024x1024) off sz inb).set = R) (c : Dev nD) (q) (f : Vec F S1024x1024 .f32) :
    (oP c R q f : sProp 𝕄) = ((((Memref.whole cc0_stg2_0).access (Rect.unit (s := S1024x1024) off sz inb)).loc (c : Thread nD τ))
      ↦[((Memref.whole cc0_stg2_0).access (Rect.unit (s := S1024x1024) off sz inb)).set]{q} f) := by
  rw [show ((Memref.whole cc0_stg2_0).access (Rect.unit (s := S1024x1024) off sz inb)).set = R from (View.set_slice_whole cc0_stg2_0 _).trans h]; rfl

/-! ## The steps -/

section Steps
variable (c : Dev nD)

/-- The device's own part put into its own slot. -/
theorem wp_own00 {off : Fin 2 → ℕ} {offG : Fin 3 → ℕ} (hO : off = ![256 * (oc 0 c).val, 0]) (hG : offG = ![(oc 0 c).val, 0, 0]) {inb inbG}
    {hl : (Memref.whole cc0_stg2_0).view.LoadsAt (Rect.unit (s := S1024x1024) off S256x640.size inb).toLoadRect} {hl2 : (Memref.whole cc0_scratch0).view.LoadsAt (Rect.unit (s := S4x256x640) offG S1x256x640.size inbG).toLoadRect}
    {hx : ((Memref.whole cc0_scratch0).access (Rect.unit (s := S4x256x640) offG S1x256x640.size inbG)).Stores Finset.univ} {hm} (f0 : Vec F S4x256x640 .f32)
    {α : Type} {Q : α → sProp 𝕄} {k : PUnit → Prog (TpuEff nD τ sig (Elt F) Λ₀ .tc) α} :
    iprop(oP c (oQ 0 (oc 0 c)) fullShare (A c) ∗ gP00 c (oc 0 c) f0)
      ⊢ iprop(((oP c (oQ 0 (oc 0 c)) fullShare (A c) ∗ gP00 c (oc 0 c) (G10 A c)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_stg2_0) (Rect.unit (s := S1024x1024) off S256x640.size inb).toLoadRect hl) fun v => .op (.load (Memref.whole cc0_scratch0) (Rect.unit (s := S4x256x640) offG S1x256x640.size inbG).toLoadRect hl2) fun _ =>
              .op (.store (Memref.whole cc0_scratch0) (Rect.unit (s := S4x256x640) offG S1x256x640.size inbG) (k0_pay4 v) Finset.univ hx hm) k) Q) := by
  have hrow : 256 * (oc 0 c).val + 256 ≤ 1024 := by omega
  have eO := fun f => oP_view (F := F) (inb := inb) (sz := S256x640.size) (set_oQ0 _ hO) c fullShare f
  have eS : ((Memref.whole cc0_scratch0).access (Rect.unit (s := S4x256x640) offG S1x256x640.size inbG)).set = slot 256 640 (oc 0 c) := (View.set_slice_whole cc0_scratch0 _).trans (set_slot _ hG)
  have eG : ∀ f, (gP00 c (oc 0 c) f : sProp 𝕄) = ((((Memref.whole cc0_scratch0).access (Rect.unit (s := S4x256x640) offG S1x256x640.size inbG)).loc (c : Thread nD τ)) ↦[((Memref.whole cc0_scratch0).access (Rect.unit (s := S4x256x640) offG S1x256x640.size inbG)).set]{fullShare} f) := fun f => by
    rw [eS]; rfl
  have hc : ∀ x, ((Memref.whole cc0_scratch0).access (Rect.unit (s := S4x256x640) offG S1x256x640.size inbG)).read (Elt F) (G10 A c) x = k0_pay4 (((Memref.whole cc0_stg2_0).access (Rect.unit (s := S1024x1024) off S256x640.size inb)).read (Elt F) (A c)) x := fun x => by
    have x1 : (x 1).val < 256 := (x 1).isLt
    have x2 : (x 2).val < 640 := (x 2).isLt
    obtain ⟨y, y0, y1⟩ : ∃ y : S256x640.Idx, (y 0).val = (x 1).val ∧ (y 1).val = (x 2).val :=
      ⟨mk2 256 640 (by decide) (by decide) (x 1).val (x 2).val, Nat.mod_eq_of_lt x1, Nat.mod_eq_of_lt x2⟩
    refine Eq.trans ?_ (k0_pay4_at (((Memref.whole cc0_stg2_0).access (Rect.unit (s := S1024x1024) off S256x640.size inb)).read (Elt F) (A c)) x y y0 y1).symm
    have e : ((Memref.whole cc0_stg2_0).access (Rect.unit (s := S1024x1024) off S256x640.size inb)).read (Elt F) (A c) y = at1024 (A c) (256 * (oc 0 c).val + (y 0).val) (0 + (y 1).val) :=
      read_A0 (A c) _ _ hO hrow (by decide : 0 + 640 ≤ 1024) y
    refine Eq.trans ?_ e.symm
    subst hG
    have hi : (((Memref.whole cc0_scratch0).access (Rect.unit (s := S4x256x640) ![(oc 0 c).val, 0, 0] S1x256x640.size inbG)).emb x : S4x256x640.Idx) = slotIdx (oc 0 c) y := by
      refine Shape.idx3_ext ?_ ?_ ?_
      · show (oc 0 c).val + 1 * (x 0).val = (oc 0 c).val
        have : (x 0).val < 1 := (x 0).isLt
        omega
      · show 0 + 1 * (x 1).val = (y 0).val; omega
      · show 0 + 1 * (x 2).val = (y 1).val; omega
    refine (congrArg (G10 A c) hi).trans ?_
    show at1024 (A (od 0 (oc 0 c) (ic 0 c))) (256 * (oc 0 c).val + (y 0).val) (y 1).val = _
    rw [od_eta, Nat.zero_add]
  rw [eO, eG, eG]
  iintro ⟨Ho, Hg⟩ Hk
  iapply (wp_load_rect 𝒱₀ (c : Thread nD τ) none Set.univ (m := (Memref.whole cc0_stg2_0)) (r := (Rect.unit (s := S1024x1024) off S256x640.size inb)) (Finset.Subset.refl _)) $$ Ho; iintro Ho
  iapply (wp_load_rect 𝒱₀ (c : Thread nD τ) none Set.univ (m := (Memref.whole cc0_scratch0)) (r := (Rect.unit (s := S4x256x640) offG S1x256x640.size inbG)) (Finset.Subset.refl _)) $$ Hg; iintro Hg
  iapply (wp_store 𝒱₀ (c : Thread nD τ) none Set.univ (m := (Memref.whole cc0_scratch0)) (r := (Rect.unit (s := S4x256x640) offG S1x256x640.size inbG)) (Mk := Finset.univ) (S := ((Memref.whole cc0_scratch0).access (Rect.unit (s := S4x256x640) offG S1x256x640.size inbG)).set) (Finset.Subset.refl _)) $$ Hg; iintro Hg
  iapply Hk
  isplitl [Ho]; · iexact Ho
  iapply (Entails.of_eq (pointsTo_congr (write_agrees ((Memref.whole cc0_scratch0).access (Rect.unit (s := S4x256x640) offG S1x256x640.size inbG)) f0 (G10 A c) _ hc)))
  iexact Hg

/-- The landing buffer reduced into the device's own part of the out buffer. -/
theorem wp_red00 {off : Fin 2 → ℕ} (hO : off = ![256 * (oc 0 c).val, 0]) {inb inbG}
    {hl : (Memref.whole cc0_stg2_0).view.LoadsAt (Rect.unit (s := S1024x1024) off S256x640.size inb).toLoadRect} {hl2 : (Memref.whole cc0_scratch0).view.LoadsAt (Rect.unit (s := S4x256x640) ![0, 0, 0] S4x256x640.size inbG).toLoadRect}
    {hx : ((Memref.whole cc0_stg2_0).access (Rect.unit (s := S1024x1024) off S256x640.size inb)).Stores Finset.univ} {hm} (f0 : Vec F S1024x1024 .f32)
    {α : Type} {Q : α → sProp 𝕄} {k : PUnit → Prog (TpuEff nD τ sig (Elt F) Λ₀ .tc) α} :
    iprop((((c : Thread nD τ).loc cc0_scratch0) ↦{fullShare} (G10 A c)) ∗ oP c (oQ 0 (oc 0 c)) fullShare f0)
      ⊢ iprop((((((c : Thread nD τ).loc cc0_scratch0) ↦{fullShare} (G10 A c)) ∗ oP c (oQ 0 (oc 0 c)) fullShare (outB A c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_scratch0) (Rect.unit (s := S4x256x640) ![0, 0, 0] S4x256x640.size inbG).toLoadRect hl2) fun v => .op (.load (Memref.whole cc0_stg2_0) (Rect.unit (s := S1024x1024) off S256x640.size inb).toLoadRect hl) fun _ =>
              .op (.store (Memref.whole cc0_stg2_0) (Rect.unit (s := S1024x1024) off S256x640.size inb) (k0_pay6 v) Finset.univ hx hm) k) Q) := by
  have hrow : 256 * (oc 0 c).val + 256 ≤ 1024 := by omega
  have eO := fun f => oP_view (F := F) (inb := inb) (sz := S256x640.size) (set_oQ0 _ hO) c fullShare f
  have hz : (![0, 0, 0] : Fin 3 → ℕ) = fun _ => 0 := by funext a; fin_cases a <;> rfl
  have hc : ∀ x, ((Memref.whole cc0_stg2_0).access (Rect.unit (s := S1024x1024) off S256x640.size inb)).read (Elt F) (outB A c) x = k0_pay6 (G10 A c) x := fun x => by
    have x0 : (x 0).val < 256 := (x 0).isLt
    have x1 : (x 1).val < 640 := (x 1).isLt
    refine (read_A0 (outB A c) _ _ hO hrow (by decide : 0 + 640 ≤ 1024) x).trans ?_
    rw [Nat.zero_add]
    refine (outB_left A c (r' := (x 0).val) (by omega) x1 (by omega)).trans ?_
    exact congrArg (B0 A c) (mk2_eq (Nat.mod_eq_of_lt x0).symm (Nat.mod_eq_of_lt x1).symm)
  rw [eO, eO]
  iintro ⟨Hg, Ho⟩ Hk
  iapply (wp_load 𝒱₀ (c : Thread nD τ) none Set.univ (m := (Memref.whole cc0_scratch0)) (r := (Rect.unit (s := S4x256x640) ![0, 0, 0] S4x256x640.size inbG).toLoadRect) (Finset.subset_univ _)) $$ Hg; iintro Hg
  iapply (wp_load_rect 𝒱₀ (c : Thread nD τ) none Set.univ (m := (Memref.whole cc0_stg2_0)) (r := (Rect.unit (s := S1024x1024) off S256x640.size inb)) (Finset.Subset.refl _)) $$ Ho; iintro Ho
  iapply (wp_store 𝒱₀ (c : Thread nD τ) none Set.univ (m := (Memref.whole cc0_stg2_0)) (r := (Rect.unit (s := S1024x1024) off S256x640.size inb)) (Mk := Finset.univ) (S := ((Memref.whole cc0_stg2_0).access (Rect.unit (s := S1024x1024) off S256x640.size inb)).set) (Finset.Subset.refl _)) $$ Ho; iintro Ho
  iapply Hk
  isplitl [Hg]; · iexact Hg
  iapply (Entails.of_eq (pointsTo_congr (write_agrees ((Memref.whole cc0_stg2_0).access (Rect.unit (s := S1024x1024) off S256x640.size inb)) f0 (outB A c) _ fun x =>
    (hc x).trans (congrArg (fun v => k0_pay6 v x) (Memref.readAt_unit_zero (Elt F) cc0_scratch0 hz inbG (G10 A c)).symm))))
  iexact Ho

/-- The device's own part put into its own slot. -/
theorem wp_own01 {off : Fin 2 → ℕ} {offG : Fin 3 → ℕ} (hO : off = ![256 * (oc 1 c).val, 640]) (hG : offG = ![(oc 1 c).val, 0, 0]) {inb inbG}
    {hl : (Memref.whole cc0_stg2_0).view.LoadsAt (Rect.unit (s := S1024x1024) off S256x384.size inb).toLoadRect} {hl2 : (Memref.whole cc0_scratch2).view.LoadsAt (Rect.unit (s := S4x256x384) offG S1x256x384.size inbG).toLoadRect}
    {hx : ((Memref.whole cc0_scratch2).access (Rect.unit (s := S4x256x384) offG S1x256x384.size inbG)).Stores Finset.univ} {hm} (f0 : Vec F S4x256x384 .f32)
    {α : Type} {Q : α → sProp 𝕄} {k : PUnit → Prog (TpuEff nD τ sig (Elt F) Λ₀ .tc) α} :
    iprop(oP c (oQ 1 (oc 1 c)) fullShare (A c) ∗ gP01 c (oc 1 c) f0)
      ⊢ iprop(((oP c (oQ 1 (oc 1 c)) fullShare (A c) ∗ gP01 c (oc 1 c) (G11 A c)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_stg2_0) (Rect.unit (s := S1024x1024) off S256x384.size inb).toLoadRect hl) fun v => .op (.load (Memref.whole cc0_scratch2) (Rect.unit (s := S4x256x384) offG S1x256x384.size inbG).toLoadRect hl2) fun _ =>
              .op (.store (Memref.whole cc0_scratch2) (Rect.unit (s := S4x256x384) offG S1x256x384.size inbG) (k0_pay5 v) Finset.univ hx hm) k) Q) := by
  have hrow : 256 * (oc 1 c).val + 256 ≤ 1024 := by omega
  have eO := fun f => oP_view (F := F) (inb := inb) (sz := S256x384.size) (set_oQ1 _ hO) c fullShare f
  have eS : ((Memref.whole cc0_scratch2).access (Rect.unit (s := S4x256x384) offG S1x256x384.size inbG)).set = slot 256 384 (oc 1 c) := (View.set_slice_whole cc0_scratch2 _).trans (set_slot _ hG)
  have eG : ∀ f, (gP01 c (oc 1 c) f : sProp 𝕄) = ((((Memref.whole cc0_scratch2).access (Rect.unit (s := S4x256x384) offG S1x256x384.size inbG)).loc (c : Thread nD τ)) ↦[((Memref.whole cc0_scratch2).access (Rect.unit (s := S4x256x384) offG S1x256x384.size inbG)).set]{fullShare} f) := fun f => by
    rw [eS]; rfl
  have hc : ∀ x, ((Memref.whole cc0_scratch2).access (Rect.unit (s := S4x256x384) offG S1x256x384.size inbG)).read (Elt F) (G11 A c) x = k0_pay5 (((Memref.whole cc0_stg2_0).access (Rect.unit (s := S1024x1024) off S256x384.size inb)).read (Elt F) (A c)) x := fun x => by
    have x1 : (x 1).val < 256 := (x 1).isLt
    have x2 : (x 2).val < 384 := (x 2).isLt
    obtain ⟨y, y0, y1⟩ : ∃ y : S256x384.Idx, (y 0).val = (x 1).val ∧ (y 1).val = (x 2).val :=
      ⟨mk2 256 384 (by decide) (by decide) (x 1).val (x 2).val, Nat.mod_eq_of_lt x1, Nat.mod_eq_of_lt x2⟩
    refine Eq.trans ?_ (k0_pay5_at (((Memref.whole cc0_stg2_0).access (Rect.unit (s := S1024x1024) off S256x384.size inb)).read (Elt F) (A c)) x y y0 y1).symm
    have e : ((Memref.whole cc0_stg2_0).access (Rect.unit (s := S1024x1024) off S256x384.size inb)).read (Elt F) (A c) y = at1024 (A c) (256 * (oc 1 c).val + (y 0).val) (640 + (y 1).val) :=
      read_A0 (A c) _ _ hO hrow (by decide : 640 + 384 ≤ 1024) y
    refine Eq.trans ?_ e.symm
    subst hG
    have hi : (((Memref.whole cc0_scratch2).access (Rect.unit (s := S4x256x384) ![(oc 1 c).val, 0, 0] S1x256x384.size inbG)).emb x : S4x256x384.Idx) = slotIdx (oc 1 c) y := by
      refine Shape.idx3_ext ?_ ?_ ?_
      · show (oc 1 c).val + 1 * (x 0).val = (oc 1 c).val
        have : (x 0).val < 1 := (x 0).isLt
        omega
      · show 0 + 1 * (x 1).val = (y 0).val; omega
      · show 0 + 1 * (x 2).val = (y 1).val; omega
    refine (congrArg (G11 A c) hi).trans ?_
    show at1024 (A (od 1 (oc 1 c) (ic 1 c))) (256 * (oc 1 c).val + (y 0).val) (640 + (y 1).val) = _
    rw [od_eta]
  rw [eO, eG, eG]
  iintro ⟨Ho, Hg⟩ Hk
  iapply (wp_load_rect 𝒱₀ (c : Thread nD τ) none Set.univ (m := (Memref.whole cc0_stg2_0)) (r := (Rect.unit (s := S1024x1024) off S256x384.size inb)) (Finset.Subset.refl _)) $$ Ho; iintro Ho
  iapply (wp_load_rect 𝒱₀ (c : Thread nD τ) none Set.univ (m := (Memref.whole cc0_scratch2)) (r := (Rect.unit (s := S4x256x384) offG S1x256x384.size inbG)) (Finset.Subset.refl _)) $$ Hg; iintro Hg
  iapply (wp_store 𝒱₀ (c : Thread nD τ) none Set.univ (m := (Memref.whole cc0_scratch2)) (r := (Rect.unit (s := S4x256x384) offG S1x256x384.size inbG)) (Mk := Finset.univ) (S := ((Memref.whole cc0_scratch2).access (Rect.unit (s := S4x256x384) offG S1x256x384.size inbG)).set) (Finset.Subset.refl _)) $$ Hg; iintro Hg
  iapply Hk
  isplitl [Ho]; · iexact Ho
  iapply (Entails.of_eq (pointsTo_congr (write_agrees ((Memref.whole cc0_scratch2).access (Rect.unit (s := S4x256x384) offG S1x256x384.size inbG)) f0 (G11 A c) _ hc)))
  iexact Hg

/-- The landing buffer reduced into the device's own part of the out buffer. -/
theorem wp_red01 {off : Fin 2 → ℕ} (hO : off = ![256 * (oc 1 c).val, 640]) {inb inbG}
    {hl : (Memref.whole cc0_stg2_0).view.LoadsAt (Rect.unit (s := S1024x1024) off S256x384.size inb).toLoadRect} {hl2 : (Memref.whole cc0_scratch2).view.LoadsAt (Rect.unit (s := S4x256x384) ![0, 0, 0] S4x256x384.size inbG).toLoadRect}
    {hx : ((Memref.whole cc0_stg2_0).access (Rect.unit (s := S1024x1024) off S256x384.size inb)).Stores Finset.univ} {hm} (f0 : Vec F S1024x1024 .f32)
    {α : Type} {Q : α → sProp 𝕄} {k : PUnit → Prog (TpuEff nD τ sig (Elt F) Λ₀ .tc) α} :
    iprop((((c : Thread nD τ).loc cc0_scratch2) ↦{fullShare} (G11 A c)) ∗ oP c (oQ 1 (oc 1 c)) fullShare f0)
      ⊢ iprop((((((c : Thread nD τ).loc cc0_scratch2) ↦{fullShare} (G11 A c)) ∗ oP c (oQ 1 (oc 1 c)) fullShare (outB A c))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_scratch2) (Rect.unit (s := S4x256x384) ![0, 0, 0] S4x256x384.size inbG).toLoadRect hl2) fun v => .op (.load (Memref.whole cc0_stg2_0) (Rect.unit (s := S1024x1024) off S256x384.size inb).toLoadRect hl) fun _ =>
              .op (.store (Memref.whole cc0_stg2_0) (Rect.unit (s := S1024x1024) off S256x384.size inb) (k0_pay8 v) Finset.univ hx hm) k) Q) := by
  have hrow : 256 * (oc 1 c).val + 256 ≤ 1024 := by omega
  have eO := fun f => oP_view (F := F) (inb := inb) (sz := S256x384.size) (set_oQ1 _ hO) c fullShare f
  have hz : (![0, 0, 0] : Fin 3 → ℕ) = fun _ => 0 := by funext a; fin_cases a <;> rfl
  have hc : ∀ x, ((Memref.whole cc0_stg2_0).access (Rect.unit (s := S1024x1024) off S256x384.size inb)).read (Elt F) (outB A c) x = k0_pay8 (G11 A c) x := fun x => by
    have x0 : (x 0).val < 256 := (x 0).isLt
    have x1 : (x 1).val < 384 := (x 1).isLt
    refine (read_A0 (outB A c) _ _ hO hrow (by decide : 640 + 384 ≤ 1024) x).trans ?_
    skip
    refine (outB_right A c (r' := (x 0).val) (by omega) x1 (by omega)).trans ?_
    exact congrArg (B1 A c) (mk2_eq (Nat.mod_eq_of_lt x0).symm (Nat.mod_eq_of_lt x1).symm)
  rw [eO, eO]
  iintro ⟨Hg, Ho⟩ Hk
  iapply (wp_load 𝒱₀ (c : Thread nD τ) none Set.univ (m := (Memref.whole cc0_scratch2)) (r := (Rect.unit (s := S4x256x384) ![0, 0, 0] S4x256x384.size inbG).toLoadRect) (Finset.subset_univ _)) $$ Hg; iintro Hg
  iapply (wp_load_rect 𝒱₀ (c : Thread nD τ) none Set.univ (m := (Memref.whole cc0_stg2_0)) (r := (Rect.unit (s := S1024x1024) off S256x384.size inb)) (Finset.Subset.refl _)) $$ Ho; iintro Ho
  iapply (wp_store 𝒱₀ (c : Thread nD τ) none Set.univ (m := (Memref.whole cc0_stg2_0)) (r := (Rect.unit (s := S1024x1024) off S256x384.size inb)) (Mk := Finset.univ) (S := ((Memref.whole cc0_stg2_0).access (Rect.unit (s := S1024x1024) off S256x384.size inb)).set) (Finset.Subset.refl _)) $$ Ho; iintro Ho
  iapply Hk
  isplitl [Hg]; · iexact Hg
  iapply (Entails.of_eq (pointsTo_congr (write_agrees ((Memref.whole cc0_stg2_0).access (Rect.unit (s := S1024x1024) off S256x384.size inb)) f0 (outB A c) _ fun x =>
    (hc x).trans (congrArg (fun v => k0_pay8 v x) (Memref.readAt_unit_zero (Elt F) cc0_scratch2 hz inbG (G11 A c)).symm))))
  iexact Ho

/-- The device's own part put into its own slot. -/
theorem wp_own10 {off : Fin 2 → ℕ} {offG : Fin 3 → ℕ} (hO : off = ![256 * (oc 0 c).val + 64 * (ic 0 c).val, 0]) (hG : offG = ![(ic 0 c).val, 0, 0]) {inb inbG}
    {hl : (Memref.whole cc0_stg2_0).view.LoadsAt (Rect.unit (s := S1024x1024) off S64x640.size inb).toLoadRect} {hl2 : (Memref.whole cc0_scratch1).view.LoadsAt (Rect.unit (s := S4x64x640) offG S1x64x640.size inbG).toLoadRect}
    {hx : ((Memref.whole cc0_scratch1).access (Rect.unit (s := S4x64x640) offG S1x64x640.size inbG)).Stores Finset.univ} {hm} (f0 : Vec F S4x64x640 .f32)
    {α : Type} {Q : α → sProp 𝕄} {k : PUnit → Prog (TpuEff nD τ sig (Elt F) Λ₀ .tc) α} :
    iprop(oP c (oK 0 (oc 0 c) (ic 0 c)) fullShare (outB A c) ∗ gP10 c (ic 0 c) f0)
      ⊢ iprop(((oP c (oK 0 (oc 0 c) (ic 0 c)) fullShare (outB A c) ∗ gP10 c (ic 0 c) (G20 A c)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_stg2_0) (Rect.unit (s := S1024x1024) off S64x640.size inb).toLoadRect hl) fun v => .op (.load (Memref.whole cc0_scratch1) (Rect.unit (s := S4x64x640) offG S1x64x640.size inbG).toLoadRect hl2) fun _ =>
              .op (.store (Memref.whole cc0_scratch1) (Rect.unit (s := S4x64x640) offG S1x64x640.size inbG) (k0_pay7 v) Finset.univ hx hm) k) Q) := by
  have hrow : 256 * (oc 0 c).val + 64 * (ic 0 c).val + 64 ≤ 1024 := by omega
  have eO := fun f => oP_view (F := F) (inb := inb) (sz := S64x640.size) (set_oK0 _ _ hO) c fullShare f
  have eS : ((Memref.whole cc0_scratch1).access (Rect.unit (s := S4x64x640) offG S1x64x640.size inbG)).set = slot 64 640 (ic 0 c) := (View.set_slice_whole cc0_scratch1 _).trans (set_slot _ hG)
  have eG : ∀ f, (gP10 c (ic 0 c) f : sProp 𝕄) = ((((Memref.whole cc0_scratch1).access (Rect.unit (s := S4x64x640) offG S1x64x640.size inbG)).loc (c : Thread nD τ)) ↦[((Memref.whole cc0_scratch1).access (Rect.unit (s := S4x64x640) offG S1x64x640.size inbG)).set]{fullShare} f) := fun f => by
    rw [eS]; rfl
  have hc : ∀ x, ((Memref.whole cc0_scratch1).access (Rect.unit (s := S4x64x640) offG S1x64x640.size inbG)).read (Elt F) (G20 A c) x = k0_pay7 (((Memref.whole cc0_stg2_0).access (Rect.unit (s := S1024x1024) off S64x640.size inb)).read (Elt F) (outB A c)) x := fun x => by
    have x1 : (x 1).val < 64 := (x 1).isLt
    have x2 : (x 2).val < 640 := (x 2).isLt
    obtain ⟨y, y0, y1⟩ : ∃ y : S64x640.Idx, (y 0).val = (x 1).val ∧ (y 1).val = (x 2).val :=
      ⟨mk2 64 640 (by decide) (by decide) (x 1).val (x 2).val, Nat.mod_eq_of_lt x1, Nat.mod_eq_of_lt x2⟩
    refine Eq.trans ?_ (k0_pay7_at (((Memref.whole cc0_stg2_0).access (Rect.unit (s := S1024x1024) off S64x640.size inb)).read (Elt F) (outB A c)) x y y0 y1).symm
    have e : ((Memref.whole cc0_stg2_0).access (Rect.unit (s := S1024x1024) off S64x640.size inb)).read (Elt F) (outB A c) y = at1024 (outB A c) (256 * (oc 0 c).val + 64 * (ic 0 c).val + (y 0).val) (0 + (y 1).val) :=
      read_A0 (outB A c) _ _ hO hrow (by decide : 0 + 640 ≤ 1024) y
    refine Eq.trans ?_ e.symm
    subst hG
    have hi : (((Memref.whole cc0_scratch1).access (Rect.unit (s := S4x64x640) ![(ic 0 c).val, 0, 0] S1x64x640.size inbG)).emb x : S4x64x640.Idx) = slotIdx (ic 0 c) y := by
      refine Shape.idx3_ext ?_ ?_ ?_
      · show (ic 0 c).val + 1 * (x 0).val = (ic 0 c).val
        have : (x 0).val < 1 := (x 0).isLt
        omega
      · show 0 + 1 * (x 1).val = (y 0).val; omega
      · show 0 + 1 * (x 2).val = (y 1).val; omega
    refine (congrArg (G20 A c) hi).trans ?_
    show at256a (B0 A (od 0 (oc 0 c) (ic 0 c))) (64 * (ic 0 c).val + (y 0).val) (y 1).val = _
    rw [od_eta, Nat.zero_add]
    exact (outB_left A c (by omega) (by omega) (by omega)).symm
  rw [eO, eG, eG]
  iintro ⟨Ho, Hg⟩ Hk
  iapply (wp_load_rect 𝒱₀ (c : Thread nD τ) none Set.univ (m := (Memref.whole cc0_stg2_0)) (r := (Rect.unit (s := S1024x1024) off S64x640.size inb)) (Finset.Subset.refl _)) $$ Ho; iintro Ho
  iapply (wp_load_rect 𝒱₀ (c : Thread nD τ) none Set.univ (m := (Memref.whole cc0_scratch1)) (r := (Rect.unit (s := S4x64x640) offG S1x64x640.size inbG)) (Finset.Subset.refl _)) $$ Hg; iintro Hg
  iapply (wp_store 𝒱₀ (c : Thread nD τ) none Set.univ (m := (Memref.whole cc0_scratch1)) (r := (Rect.unit (s := S4x64x640) offG S1x64x640.size inbG)) (Mk := Finset.univ) (S := ((Memref.whole cc0_scratch1).access (Rect.unit (s := S4x64x640) offG S1x64x640.size inbG)).set) (Finset.Subset.refl _)) $$ Hg; iintro Hg
  iapply Hk
  isplitl [Ho]; · iexact Ho
  iapply (Entails.of_eq (pointsTo_congr (write_agrees ((Memref.whole cc0_scratch1).access (Rect.unit (s := S4x64x640) offG S1x64x640.size inbG)) f0 (G20 A c) _ hc)))
  iexact Hg

/-- The landing buffer reduced into the device's own part of the out buffer. -/
theorem wp_red10 {off : Fin 2 → ℕ} (hO : off = ![256 * (oc 0 c).val + 64 * (ic 0 c).val, 0]) {inb inbG}
    {hl : (Memref.whole cc0_stg2_0).view.LoadsAt (Rect.unit (s := S1024x1024) off S64x640.size inb).toLoadRect} {hl2 : (Memref.whole cc0_scratch1).view.LoadsAt (Rect.unit (s := S4x64x640) ![0, 0, 0] S4x64x640.size inbG).toLoadRect}
    {hx : ((Memref.whole cc0_stg2_0).access (Rect.unit (s := S1024x1024) off S64x640.size inb)).Stores Finset.univ} {hm} (f0 : Vec F S1024x1024 .f32)
    {α : Type} {Q : α → sProp 𝕄} {k : PUnit → Prog (TpuEff nD τ sig (Elt F) Λ₀ .tc) α} :
    iprop((((c : Thread nD τ).loc cc0_scratch1) ↦{fullShare} (G20 A c)) ∗ oP c (oK 0 (oc 0 c) (ic 0 c)) fullShare f0)
      ⊢ iprop((((((c : Thread nD τ).loc cc0_scratch1) ↦{fullShare} (G20 A c)) ∗ oP c (oK 0 (oc 0 c) (ic 0 c)) fullShare (finV A))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_scratch1) (Rect.unit (s := S4x64x640) ![0, 0, 0] S4x64x640.size inbG).toLoadRect hl2) fun v => .op (.load (Memref.whole cc0_stg2_0) (Rect.unit (s := S1024x1024) off S64x640.size inb).toLoadRect hl) fun _ =>
              .op (.store (Memref.whole cc0_stg2_0) (Rect.unit (s := S1024x1024) off S64x640.size inb) (k0_pay10 v) Finset.univ hx hm) k) Q) := by
  have hrow : 256 * (oc 0 c).val + 64 * (ic 0 c).val + 64 ≤ 1024 := by omega
  have eO := fun f => oP_view (F := F) (inb := inb) (sz := S64x640.size) (set_oK0 _ _ hO) c fullShare f
  have hz : (![0, 0, 0] : Fin 3 → ℕ) = fun _ => 0 := by funext a; fin_cases a <;> rfl
  have hc : ∀ x, ((Memref.whole cc0_stg2_0).access (Rect.unit (s := S1024x1024) off S64x640.size inb)).read (Elt F) (finV A) x = k0_pay10 (G20 A c) x := fun x => by
    have x0 : (x 0).val < 64 := (x 0).isLt
    have x1 : (x 1).val < 640 := (x 1).isLt
    refine (read_A0 (finV A) _ _ hO hrow (by decide : 0 + 640 ≤ 1024) x).trans ?_
    rw [Nat.zero_add]
    refine (finV_left A c x0 x1).trans ?_
    exact congrArg (C0 A c) (mk2_eq (Nat.mod_eq_of_lt x0).symm (Nat.mod_eq_of_lt x1).symm)
  rw [eO, eO]
  iintro ⟨Hg, Ho⟩ Hk
  iapply (wp_load 𝒱₀ (c : Thread nD τ) none Set.univ (m := (Memref.whole cc0_scratch1)) (r := (Rect.unit (s := S4x64x640) ![0, 0, 0] S4x64x640.size inbG).toLoadRect) (Finset.subset_univ _)) $$ Hg; iintro Hg
  iapply (wp_load_rect 𝒱₀ (c : Thread nD τ) none Set.univ (m := (Memref.whole cc0_stg2_0)) (r := (Rect.unit (s := S1024x1024) off S64x640.size inb)) (Finset.Subset.refl _)) $$ Ho; iintro Ho
  iapply (wp_store 𝒱₀ (c : Thread nD τ) none Set.univ (m := (Memref.whole cc0_stg2_0)) (r := (Rect.unit (s := S1024x1024) off S64x640.size inb)) (Mk := Finset.univ) (S := ((Memref.whole cc0_stg2_0).access (Rect.unit (s := S1024x1024) off S64x640.size inb)).set) (Finset.Subset.refl _)) $$ Ho; iintro Ho
  iapply Hk
  isplitl [Hg]; · iexact Hg
  iapply (Entails.of_eq (pointsTo_congr (write_agrees ((Memref.whole cc0_stg2_0).access (Rect.unit (s := S1024x1024) off S64x640.size inb)) f0 (finV A) _ fun x =>
    (hc x).trans (congrArg (fun v => k0_pay10 v x) (Memref.readAt_unit_zero (Elt F) cc0_scratch1 hz inbG (G20 A c)).symm))))
  iexact Ho

/-- The device's own part put into its own slot. -/
theorem wp_own11 {off : Fin 2 → ℕ} {offG : Fin 3 → ℕ} (hO : off = ![256 * (oc 1 c).val + 64 * (ic 1 c).val, 640]) (hG : offG = ![(ic 1 c).val, 0, 0]) {inb inbG}
    {hl : (Memref.whole cc0_stg2_0).view.LoadsAt (Rect.unit (s := S1024x1024) off S64x384.size inb).toLoadRect} {hl2 : (Memref.whole cc0_scratch3).view.LoadsAt (Rect.unit (s := S4x64x384) offG S1x64x384.size inbG).toLoadRect}
    {hx : ((Memref.whole cc0_scratch3).access (Rect.unit (s := S4x64x384) offG S1x64x384.size inbG)).Stores Finset.univ} {hm} (f0 : Vec F S4x64x384 .f32)
    {α : Type} {Q : α → sProp 𝕄} {k : PUnit → Prog (TpuEff nD τ sig (Elt F) Λ₀ .tc) α} :
    iprop(oP c (oK 1 (oc 1 c) (ic 1 c)) fullShare (outB A c) ∗ gP11 c (ic 1 c) f0)
      ⊢ iprop(((oP c (oK 1 (oc 1 c) (ic 1 c)) fullShare (outB A c) ∗ gP11 c (ic 1 c) (G21 A c)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_stg2_0) (Rect.unit (s := S1024x1024) off S64x384.size inb).toLoadRect hl) fun v => .op (.load (Memref.whole cc0_scratch3) (Rect.unit (s := S4x64x384) offG S1x64x384.size inbG).toLoadRect hl2) fun _ =>
              .op (.store (Memref.whole cc0_scratch3) (Rect.unit (s := S4x64x384) offG S1x64x384.size inbG) (k0_pay9 v) Finset.univ hx hm) k) Q) := by
  have hrow : 256 * (oc 1 c).val + 64 * (ic 1 c).val + 64 ≤ 1024 := by omega
  have eO := fun f => oP_view (F := F) (inb := inb) (sz := S64x384.size) (set_oK1 _ _ hO) c fullShare f
  have eS : ((Memref.whole cc0_scratch3).access (Rect.unit (s := S4x64x384) offG S1x64x384.size inbG)).set = slot 64 384 (ic 1 c) := (View.set_slice_whole cc0_scratch3 _).trans (set_slot _ hG)
  have eG : ∀ f, (gP11 c (ic 1 c) f : sProp 𝕄) = ((((Memref.whole cc0_scratch3).access (Rect.unit (s := S4x64x384) offG S1x64x384.size inbG)).loc (c : Thread nD τ)) ↦[((Memref.whole cc0_scratch3).access (Rect.unit (s := S4x64x384) offG S1x64x384.size inbG)).set]{fullShare} f) := fun f => by
    rw [eS]; rfl
  have hc : ∀ x, ((Memref.whole cc0_scratch3).access (Rect.unit (s := S4x64x384) offG S1x64x384.size inbG)).read (Elt F) (G21 A c) x = k0_pay9 (((Memref.whole cc0_stg2_0).access (Rect.unit (s := S1024x1024) off S64x384.size inb)).read (Elt F) (outB A c)) x := fun x => by
    have x1 : (x 1).val < 64 := (x 1).isLt
    have x2 : (x 2).val < 384 := (x 2).isLt
    obtain ⟨y, y0, y1⟩ : ∃ y : S64x384.Idx, (y 0).val = (x 1).val ∧ (y 1).val = (x 2).val :=
      ⟨mk2 64 384 (by decide) (by decide) (x 1).val (x 2).val, Nat.mod_eq_of_lt x1, Nat.mod_eq_of_lt x2⟩
    refine Eq.trans ?_ (k0_pay9_at (((Memref.whole cc0_stg2_0).access (Rect.unit (s := S1024x1024) off S64x384.size inb)).read (Elt F) (outB A c)) x y y0 y1).symm
    have e : ((Memref.whole cc0_stg2_0).access (Rect.unit (s := S1024x1024) off S64x384.size inb)).read (Elt F) (outB A c) y = at1024 (outB A c) (256 * (oc 1 c).val + 64 * (ic 1 c).val + (y 0).val) (640 + (y 1).val) :=
      read_A0 (outB A c) _ _ hO hrow (by decide : 640 + 384 ≤ 1024) y
    refine Eq.trans ?_ e.symm
    subst hG
    have hi : (((Memref.whole cc0_scratch3).access (Rect.unit (s := S4x64x384) ![(ic 1 c).val, 0, 0] S1x64x384.size inbG)).emb x : S4x64x384.Idx) = slotIdx (ic 1 c) y := by
      refine Shape.idx3_ext ?_ ?_ ?_
      · show (ic 1 c).val + 1 * (x 0).val = (ic 1 c).val
        have : (x 0).val < 1 := (x 0).isLt
        omega
      · show 0 + 1 * (x 1).val = (y 0).val; omega
      · show 0 + 1 * (x 2).val = (y 1).val; omega
    refine (congrArg (G21 A c) hi).trans ?_
    show at256b (B1 A (od 1 (oc 1 c) (ic 1 c))) (64 * (ic 1 c).val + (y 0).val) (y 1).val = _
    rw [od_eta]
    exact (outB_right A c (by omega) (by omega) (by omega)).symm
  rw [eO, eG, eG]
  iintro ⟨Ho, Hg⟩ Hk
  iapply (wp_load_rect 𝒱₀ (c : Thread nD τ) none Set.univ (m := (Memref.whole cc0_stg2_0)) (r := (Rect.unit (s := S1024x1024) off S64x384.size inb)) (Finset.Subset.refl _)) $$ Ho; iintro Ho
  iapply (wp_load_rect 𝒱₀ (c : Thread nD τ) none Set.univ (m := (Memref.whole cc0_scratch3)) (r := (Rect.unit (s := S4x64x384) offG S1x64x384.size inbG)) (Finset.Subset.refl _)) $$ Hg; iintro Hg
  iapply (wp_store 𝒱₀ (c : Thread nD τ) none Set.univ (m := (Memref.whole cc0_scratch3)) (r := (Rect.unit (s := S4x64x384) offG S1x64x384.size inbG)) (Mk := Finset.univ) (S := ((Memref.whole cc0_scratch3).access (Rect.unit (s := S4x64x384) offG S1x64x384.size inbG)).set) (Finset.Subset.refl _)) $$ Hg; iintro Hg
  iapply Hk
  isplitl [Ho]; · iexact Ho
  iapply (Entails.of_eq (pointsTo_congr (write_agrees ((Memref.whole cc0_scratch3).access (Rect.unit (s := S4x64x384) offG S1x64x384.size inbG)) f0 (G21 A c) _ hc)))
  iexact Hg

/-- The landing buffer reduced into the device's own part of the out buffer. -/
theorem wp_red11 {off : Fin 2 → ℕ} (hO : off = ![256 * (oc 1 c).val + 64 * (ic 1 c).val, 640]) {inb inbG}
    {hl : (Memref.whole cc0_stg2_0).view.LoadsAt (Rect.unit (s := S1024x1024) off S64x384.size inb).toLoadRect} {hl2 : (Memref.whole cc0_scratch3).view.LoadsAt (Rect.unit (s := S4x64x384) ![0, 0, 0] S4x64x384.size inbG).toLoadRect}
    {hx : ((Memref.whole cc0_stg2_0).access (Rect.unit (s := S1024x1024) off S64x384.size inb)).Stores Finset.univ} {hm} (f0 : Vec F S1024x1024 .f32)
    {α : Type} {Q : α → sProp 𝕄} {k : PUnit → Prog (TpuEff nD τ sig (Elt F) Λ₀ .tc) α} :
    iprop((((c : Thread nD τ).loc cc0_scratch3) ↦{fullShare} (G21 A c)) ∗ oP c (oK 1 (oc 1 c) (ic 1 c)) fullShare f0)
      ⊢ iprop((((((c : Thread nD τ).loc cc0_scratch3) ↦{fullShare} (G21 A c)) ∗ oP c (oK 1 (oc 1 c) (ic 1 c)) fullShare (finV A))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load (Memref.whole cc0_scratch3) (Rect.unit (s := S4x64x384) ![0, 0, 0] S4x64x384.size inbG).toLoadRect hl2) fun v => .op (.load (Memref.whole cc0_stg2_0) (Rect.unit (s := S1024x1024) off S64x384.size inb).toLoadRect hl) fun _ =>
              .op (.store (Memref.whole cc0_stg2_0) (Rect.unit (s := S1024x1024) off S64x384.size inb) (k0_pay11 v) Finset.univ hx hm) k) Q) := by
  have hrow : 256 * (oc 1 c).val + 64 * (ic 1 c).val + 64 ≤ 1024 := by omega
  have eO := fun f => oP_view (F := F) (inb := inb) (sz := S64x384.size) (set_oK1 _ _ hO) c fullShare f
  have hz : (![0, 0, 0] : Fin 3 → ℕ) = fun _ => 0 := by funext a; fin_cases a <;> rfl
  have hc : ∀ x, ((Memref.whole cc0_stg2_0).access (Rect.unit (s := S1024x1024) off S64x384.size inb)).read (Elt F) (finV A) x = k0_pay11 (G21 A c) x := fun x => by
    have x0 : (x 0).val < 64 := (x 0).isLt
    have x1 : (x 1).val < 384 := (x 1).isLt
    refine (read_A0 (finV A) _ _ hO hrow (by decide : 640 + 384 ≤ 1024) x).trans ?_
    skip
    refine (finV_right A c x0 x1).trans ?_
    exact congrArg (C1 A c) (mk2_eq (Nat.mod_eq_of_lt x0).symm (Nat.mod_eq_of_lt x1).symm)
  rw [eO, eO]
  iintro ⟨Hg, Ho⟩ Hk
  iapply (wp_load 𝒱₀ (c : Thread nD τ) none Set.univ (m := (Memref.whole cc0_scratch3)) (r := (Rect.unit (s := S4x64x384) ![0, 0, 0] S4x64x384.size inbG).toLoadRect) (Finset.subset_univ _)) $$ Hg; iintro Hg
  iapply (wp_load_rect 𝒱₀ (c : Thread nD τ) none Set.univ (m := (Memref.whole cc0_stg2_0)) (r := (Rect.unit (s := S1024x1024) off S64x384.size inb)) (Finset.Subset.refl _)) $$ Ho; iintro Ho
  iapply (wp_store 𝒱₀ (c : Thread nD τ) none Set.univ (m := (Memref.whole cc0_stg2_0)) (r := (Rect.unit (s := S1024x1024) off S64x384.size inb)) (Mk := Finset.univ) (S := ((Memref.whole cc0_stg2_0).access (Rect.unit (s := S1024x1024) off S64x384.size inb)).set) (Finset.Subset.refl _)) $$ Ho; iintro Ho
  iapply Hk
  isplitl [Hg]; · iexact Hg
  iapply (Entails.of_eq (pointsTo_congr (write_agrees ((Memref.whole cc0_stg2_0).access (Rect.unit (s := S1024x1024) off S64x384.size inb)) f0 (finV A) _ fun x =>
    (hc x).trans (congrArg (fun v => k0_pay11 v x) (Memref.readAt_unit_zero (Elt F) cc0_scratch3 hz inbG (G21 A c)).symm))))
  iexact Ho

end Steps

end Cert.Hier

end
-- ==== Proof.Parts.lean ====
/-
The buffers cut into the parts that the protocol moves, and put together again.
-/
module

public import proofs.«01_k».proof.Proof.Stores

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S1024x1024 .f32)

set_option maxRecDepth 40000

/-- Four things, one per coordinate, from a coordinate on. -/
theorem four (k : Fin 4) (B : Fin 4 → sProp 𝕄) :
    bigSep Finset.univ B = iprop(B k ∗ B (adv k 0) ∗ B (adv k 1) ∗ B (adv k 2)) := by
  rw [fin4_cases k, BI.bigSep_insert (by revert k; decide), BI.bigSep_insert (by revert k; decide), BI.bigSep_insert (by revert k; decide), bigSep_singleton]
  rfl

/-- A quarter cut into its blocks. -/
theorem blocks (h : Fin 2) (q k : Fin 4) (c : Dev nD) (sh) (f : Vec F S1024x1024 .f32) :
    (oP c (oQ h q) sh f : sProp 𝕄) = iprop(oP c (oK h q k) sh f ∗ oP c (oK h q (adv k 0)) sh f ∗ oP c (oK h q (adv k 1)) sh f ∗ oP c (oK h q (adv k 2)) sh f) := by
  rw [← four k fun k => oP c (oK h q k) sh f, oQ_eq_biUnion]
  exact pointsTo_biUnion _ _ fun t _ t' _ => oK_disjoint h q t t'

/-- The four quarters of a half, from a coordinate on. -/
def quarters (h : Fin 2) (q : Fin 4) (c : Dev nD) (f : Vec F S1024x1024 .f32) : sProp 𝕄 :=
  iprop(oP c (oQ h q) fullShare f ∗ oP c (oQ h (adv q 0)) fullShare f ∗ oP c (oQ h (adv q 1)) fullShare f ∗ oP c (oQ h (adv q 2)) fullShare f)
theorem whole_out (q0 q1 : Fin 4) (c : Dev nD) (f : Vec F S1024x1024 .f32) :
    (oP c Finset.univ fullShare f : sProp 𝕄) = iprop(quarters 0 q0 c f ∗ quarters 1 q1 c f) := by
  unfold quarters
  rw [← four q0 fun q => oP c (oQ 0 q) fullShare f, ← four q1 fun q => oP c (oQ 1 q) fullShare f, univ_eq_biUnion]
  refine (pointsTo_biUnion _ _ fun t _ t' _ => oQ_disjoint t t').trans ?_
  rw [bigSep_univ_prod, bigSep_fin_two]
  rfl

/-- A landing buffer cut into its slots. -/
theorem slots00 (k : Fin 4) (c : Dev nD) (f : Vec F S4x256x640 .f32) :
    (((c : Thread nD τ).loc cc0_scratch0) ↦{fullShare} f : sProp 𝕄) = iprop(gP00 c k f ∗ gP00 c (adv k 0) f ∗ gP00 c (adv k 1) f ∗ gP00 c (adv k 2) f) := by
  rw [← four k fun k => gP00 c k f]
  refine (congrArg (fun R => (((c : Thread nD τ).loc cc0_scratch0) ↦[R]{fullShare} f : sProp 𝕄)) (slot_univ 256 640)).trans ?_
  exact pointsTo_biUnion _ _ fun t _ t' _ => slot_disjoint 256 640 t t'
theorem slots01 (k : Fin 4) (c : Dev nD) (f : Vec F S4x256x384 .f32) :
    (((c : Thread nD τ).loc cc0_scratch2) ↦{fullShare} f : sProp 𝕄) = iprop(gP01 c k f ∗ gP01 c (adv k 0) f ∗ gP01 c (adv k 1) f ∗ gP01 c (adv k 2) f) := by
  rw [← four k fun k => gP01 c k f]
  refine (congrArg (fun R => (((c : Thread nD τ).loc cc0_scratch2) ↦[R]{fullShare} f : sProp 𝕄)) (slot_univ 256 384)).trans ?_
  exact pointsTo_biUnion _ _ fun t _ t' _ => slot_disjoint 256 384 t t'
theorem slots10 (k : Fin 4) (c : Dev nD) (f : Vec F S4x64x640 .f32) :
    (((c : Thread nD τ).loc cc0_scratch1) ↦{fullShare} f : sProp 𝕄) = iprop(gP10 c k f ∗ gP10 c (adv k 0) f ∗ gP10 c (adv k 1) f ∗ gP10 c (adv k 2) f) := by
  rw [← four k fun k => gP10 c k f]
  refine (congrArg (fun R => (((c : Thread nD τ).loc cc0_scratch1) ↦[R]{fullShare} f : sProp 𝕄)) (slot_univ 64 640)).trans ?_
  exact pointsTo_biUnion _ _ fun t _ t' _ => slot_disjoint 64 640 t t'
theorem slots11 (k : Fin 4) (c : Dev nD) (f : Vec F S4x64x384 .f32) :
    (((c : Thread nD τ).loc cc0_scratch3) ↦{fullShare} f : sProp 𝕄) = iprop(gP11 c k f ∗ gP11 c (adv k 0) f ∗ gP11 c (adv k 1) f ∗ gP11 c (adv k 2) f) := by
  rw [← four k fun k => gP11 c k f]
  refine (congrArg (fun R => (((c : Thread nD τ).loc cc0_scratch3) ↦[R]{fullShare} f : sProp 𝕄)) (slot_univ 64 384)).trans ?_
  exact pointsTo_biUnion _ _ fun t _ t' _ => slot_disjoint 64 384 t t'

/-! ## Shares -/

theorem oP_halves (c : Dev nD) (R) (q : PosShare TreeShare) (f : Vec F S1024x1024 .f32) :
    (oP c R q f : sProp 𝕄) = iprop(oP c R q.left f ∗ oP c R q.right f) :=
  have h := pointsTo_share (PosShare.mem_left_op_right q)
  BI.Entails.antisymm h.1 h.2
theorem oP_thirds (c : Dev nD) (R) (q : PosShare TreeShare) (f : Vec F S1024x1024 .f32) :
    (oP c R q f : sProp 𝕄) = iprop(oP c R (sh3 q 0) f ∗ oP c R (sh3 q 1) f ∗ oP c R (sh3 q 2) f) :=
  (oP_halves c R q f).trans (congrArg (fun X => iprop(oP c R q.left f ∗ X)) (oP_halves c R q.right f))

/-! ## What the landings of a stage hand over together -/

section Lands
variable (c : Dev nD)

theorem lands00 :
    iprop(gP00 c (oc 0 c) (G10 A c) ∗ xPay A (true, 0, 0, 0) c ∗ xPay A (true, 0, 0, 1) c ∗ xPay A (true, 0, 0, 2) c)
      ⊢ iprop((((c : Thread nD τ).loc cc0_scratch0) ↦{fullShare} (G10 A c)) ∗ oP (op 0 c 0) (oQ 0 (oc 0 c)) fullShare (A (op 0 c 0))
        ∗ oP (op 0 c 1) (oQ 0 (oc 0 c)) fullShare (A (op 0 c 1)) ∗ oP (op 0 c 2) (oQ 0 (oc 0 c)) fullShare (A (op 0 c 2))) := by
  rw [slots00 (oc 0 c), ← oc_op, ← oc_op, ← oc_op]
  show iprop(gP00 c (oc 0 c) (G10 A c) ∗ (gP00 c (oc 0 (op 0 c 2)) (G10 A c) ∗ oP (op 0 c 2) (oQ 0 (oc 0 c)) fullShare (A (op 0 c 2)))
    ∗ (gP00 c (oc 0 (op 0 c 1)) (G10 A c) ∗ oP (op 0 c 1) (oQ 0 (oc 0 c)) fullShare (A (op 0 c 1)))
    ∗ (gP00 c (oc 0 (op 0 c 0)) (G10 A c) ∗ oP (op 0 c 0) (oQ 0 (oc 0 c)) fullShare (A (op 0 c 0)))) ⊢ _
  iintro ⟨G, ⟨G2, O2⟩, ⟨G1, O1⟩, G0, O0⟩
  isplitl [G G0 G1 G2]
  · isplitl [G]; · iexact G
    isplitl [G0]; · iexact G0
    isplitl [G1] <;> iassumption
  isplitl [O0]; · iexact O0
  isplitl [O1] <;> iassumption
theorem lands01 :
    iprop(gP01 c (oc 1 c) (G11 A c) ∗ xPay A (true, 0, 1, 0) c ∗ xPay A (true, 0, 1, 1) c ∗ xPay A (true, 0, 1, 2) c)
      ⊢ iprop((((c : Thread nD τ).loc cc0_scratch2) ↦{fullShare} (G11 A c)) ∗ oP (op 1 c 0) (oQ 1 (oc 1 c)) fullShare (A (op 1 c 0))
        ∗ oP (op 1 c 1) (oQ 1 (oc 1 c)) fullShare (A (op 1 c 1)) ∗ oP (op 1 c 2) (oQ 1 (oc 1 c)) fullShare (A (op 1 c 2))) := by
  rw [slots01 (oc 1 c), ← oc_op, ← oc_op, ← oc_op]
  show iprop(gP01 c (oc 1 c) (G11 A c) ∗ (gP01 c (oc 1 (op 1 c 2)) (G11 A c) ∗ oP (op 1 c 2) (oQ 1 (oc 1 c)) fullShare (A (op 1 c 2)))
    ∗ (gP01 c (oc 1 (op 1 c 1)) (G11 A c) ∗ oP (op 1 c 1) (oQ 1 (oc 1 c)) fullShare (A (op 1 c 1)))
    ∗ (gP01 c (oc 1 (op 1 c 0)) (G11 A c) ∗ oP (op 1 c 0) (oQ 1 (oc 1 c)) fullShare (A (op 1 c 0)))) ⊢ _
  iintro ⟨G, ⟨G2, O2⟩, ⟨G1, O1⟩, G0, O0⟩
  isplitl [G G0 G1 G2]
  · isplitl [G]; · iexact G
    isplitl [G0]; · iexact G0
    isplitl [G1] <;> iassumption
  isplitl [O0]; · iexact O0
  isplitl [O1] <;> iassumption
theorem lands10 :
    iprop(gP10 c (ic 0 c) (G20 A c) ∗ xPay A (true, 1, 0, 0) c ∗ xPay A (true, 1, 0, 1) c ∗ xPay A (true, 1, 0, 2) c)
      ⊢ iprop((((c : Thread nD τ).loc cc0_scratch1) ↦{fullShare} (G20 A c)) ∗ oP (ip 0 c 0) (oK 0 (oc 0 c) (ic 0 c)) fullShare (outB A (ip 0 c 0))
        ∗ oP (ip 0 c 1) (oK 0 (oc 0 c) (ic 0 c)) fullShare (outB A (ip 0 c 1)) ∗ oP (ip 0 c 2) (oK 0 (oc 0 c) (ic 0 c)) fullShare (outB A (ip 0 c 2))) := by
  rw [slots10 (ic 0 c), ← ic_ip, ← ic_ip, ← ic_ip]
  show iprop(gP10 c (ic 0 c) (G20 A c) ∗ (gP10 c (ic 0 (ip 0 c 2)) (G20 A c) ∗ oP (ip 0 c 2) (oK 0 (oc 0 c) (ic 0 c)) fullShare (outB A (ip 0 c 2)))
    ∗ (gP10 c (ic 0 (ip 0 c 1)) (G20 A c) ∗ oP (ip 0 c 1) (oK 0 (oc 0 c) (ic 0 c)) fullShare (outB A (ip 0 c 1)))
    ∗ (gP10 c (ic 0 (ip 0 c 0)) (G20 A c) ∗ oP (ip 0 c 0) (oK 0 (oc 0 c) (ic 0 c)) fullShare (outB A (ip 0 c 0)))) ⊢ _
  iintro ⟨G, ⟨G2, O2⟩, ⟨G1, O1⟩, G0, O0⟩
  isplitl [G G0 G1 G2]
  · isplitl [G]; · iexact G
    isplitl [G0]; · iexact G0
    isplitl [G1] <;> iassumption
  isplitl [O0]; · iexact O0
  isplitl [O1] <;> iassumption
theorem lands11 :
    iprop(gP11 c (ic 1 c) (G21 A c) ∗ xPay A (true, 1, 1, 0) c ∗ xPay A (true, 1, 1, 1) c ∗ xPay A (true, 1, 1, 2) c)
      ⊢ iprop((((c : Thread nD τ).loc cc0_scratch3) ↦{fullShare} (G21 A c)) ∗ oP (ip 1 c 0) (oK 1 (oc 1 c) (ic 1 c)) fullShare (outB A (ip 1 c 0))
        ∗ oP (ip 1 c 1) (oK 1 (oc 1 c) (ic 1 c)) fullShare (outB A (ip 1 c 1)) ∗ oP (ip 1 c 2) (oK 1 (oc 1 c) (ic 1 c)) fullShare (outB A (ip 1 c 2))) := by
  rw [slots11 (ic 1 c), ← ic_ip, ← ic_ip, ← ic_ip]
  show iprop(gP11 c (ic 1 c) (G21 A c) ∗ (gP11 c (ic 1 (ip 1 c 2)) (G21 A c) ∗ oP (ip 1 c 2) (oK 1 (oc 1 c) (ic 1 c)) fullShare (outB A (ip 1 c 2)))
    ∗ (gP11 c (ic 1 (ip 1 c 1)) (G21 A c) ∗ oP (ip 1 c 1) (oK 1 (oc 1 c) (ic 1 c)) fullShare (outB A (ip 1 c 1)))
    ∗ (gP11 c (ic 1 (ip 1 c 0)) (G21 A c) ∗ oP (ip 1 c 0) (oK 1 (oc 1 c) (ic 1 c)) fullShare (outB A (ip 1 c 0)))) ⊢ _
  iintro ⟨G, ⟨G2, O2⟩, ⟨G1, O1⟩, G0, O0⟩
  isplitl [G G0 G1 G2]
  · isplitl [G]; · iexact G
    isplitl [G0]; · iexact G0
    isplitl [G1] <;> iassumption
  isplitl [O0]; · iexact O0
  isplitl [O1] <;> iassumption

variable (h : Fin 2)

/-- The left halves of the blocks that stage 2 brought. -/
def lefts : sProp 𝕄 :=
  iprop(oP c (oK h (oc h c) (adv (ic h c) 0)) fullShare.left (finV A) ∗ oP c (oK h (oc h c) (adv (ic h c) 1)) fullShare.left (finV A)
    ∗ oP c (oK h (oc h c) (adv (ic h c) 2)) fullShare.left (finV A))

/-- After stage 2 the right half of the whole quarter is at hand, in thirds. -/
theorem lands2 :
    iprop(oP c (oK h (oc h c) (ic h c)) fullShare.right (finV A) ∗ xPay A (true, 2, h, 0) c ∗ xPay A (true, 2, h, 1) c ∗ xPay A (true, 2, h, 2) c)
      ⊢ iprop(lefts A c h ∗ oP c (oQ h (oc h c)) (sh3 fullShare.right 0) (finV A) ∗ oP c (oQ h (oc h c)) (sh3 fullShare.right 1) (finV A)
        ∗ oP c (oQ h (oc h c)) (sh3 fullShare.right 2) (finV A)) := by
  rw [← oP_thirds, blocks h (oc h c) (ic h c)]
  unfold lefts
  show iprop(oP c (oK h (oc h c) (ic h c)) fullShare.right (finV A) ∗ oP c (oK h (oc h c) (ic h (ip h c 2))) fullShare (finV A)
    ∗ oP c (oK h (oc h c) (ic h (ip h c 1))) fullShare (finV A) ∗ oP c (oK h (oc h c) (ic h (ip h c 0))) fullShare (finV A)) ⊢ _
  rw [ic_ip, ic_ip, ic_ip, oP_halves c _ fullShare, oP_halves c (oK h (oc h c) (adv (ic h c) 1)) fullShare, oP_halves c (oK h (oc h c) (adv (ic h c) 0)) fullShare]
  iintro ⟨R, ⟨L2, R2⟩, ⟨L1, R1⟩, L0, R0⟩
  isplitl [L0 L1 L2]
  · isplitl [L0]; · iexact L0
    isplitl [L1] <;> iassumption
  isplitl [R]; · iexact R
  isplitl [R0]; · iexact R0
  isplitl [R1] <;> iassumption

/-- At the end a half is whole again. -/
theorem ends :
    iprop(lefts A c h ∗ (xPay A (false, 2, h, 0) c ∗ xPay A (false, 2, h, 1) c ∗ xPay A (false, 2, h, 2) c)
        ∗ (xPay A (false, 3, h, 0) c ∗ xPay A (false, 3, h, 1) c ∗ xPay A (false, 3, h, 2) c)
        ∗ xPay A (true, 3, h, 0) c ∗ xPay A (true, 3, h, 1) c ∗ xPay A (true, 3, h, 2) c)
      ⊢ quarters h (oc h c) c (finV A) := by
  unfold quarters
  rw [oP_halves c (oQ h (oc h c)) fullShare, blocks h (oc h c) (ic h c) c fullShare.left, oP_thirds c _ fullShare.left, oP_thirds c _ fullShare.right]
  unfold lefts
  show iprop(_ ∗ (oP c (oK h (oc h c) (ic h c)) (sh3 fullShare.left 0) (finV A) ∗ oP c (oK h (oc h c) (ic h c)) (sh3 fullShare.left 1) (finV A)
      ∗ oP c (oK h (oc h c) (ic h c)) (sh3 fullShare.left 2) (finV A))
    ∗ (oP c (oQ h (oc h c)) (sh3 fullShare.right 0) (finV A) ∗ oP c (oQ h (oc h c)) (sh3 fullShare.right 1) (finV A)
      ∗ oP c (oQ h (oc h c)) (sh3 fullShare.right 2) (finV A))
    ∗ oP c (oQ h (oc h (op h c 2))) fullShare (finV A) ∗ oP c (oQ h (oc h (op h c 1))) fullShare (finV A) ∗ oP c (oQ h (oc h (op h c 0))) fullShare (finV A)) ⊢ _
  rw [oc_op, oc_op, oc_op]
  iintro ⟨⟨L0, L1, L2⟩, HB, HR, Q2, Q1, Q0⟩
  isplitl [L0 L1 L2 HB HR]
  · isplitl [L0 L1 L2 HB]
    · isplitl [HB]; · iexact HB
      isplitl [L0]; · iexact L0
      isplitl [L1] <;> iassumption
    iexact HR
  isplitl [Q0]; · iexact Q0
  isplitl [Q1] <;> iassumption

/-! ## The barrier's payments -/

theorem barPays :
    (bigSep Finset.univ fun d => barPay (F := F) c d)
      ⊢ iprop((slotE (F := F) 0 0 (op 0 c 0) (oc 0 c) ∗ slotE (F := F) 0 0 (op 0 c 1) (oc 0 c) ∗ slotE (F := F) 0 0 (op 0 c 2) (oc 0 c))
        ∗ (slotE (F := F) 0 1 (op 1 c 0) (oc 1 c) ∗ slotE (F := F) 0 1 (op 1 c 1) (oc 1 c) ∗ slotE (F := F) 0 1 (op 1 c 2) (oc 1 c))
        ∗ (slotE (F := F) 1 0 (ip 0 c 0) (ic 0 c) ∗ slotE (F := F) 1 0 (ip 0 c 1) (ic 0 c) ∗ slotE (F := F) 1 0 (ip 0 c 2) (ic 0 c))
        ∗ (slotE (F := F) 1 1 (ip 1 c 0) (ic 1 c) ∗ slotE (F := F) 1 1 (ip 1 c 1) (ic 1 c) ∗ slotE (F := F) 1 1 (ip 1 c 2) (ic 1 c))) := by
  rw [bigSep_univ_eq_bigSepL [(0, false), (0, true), (1, false), (1, true), (2, false), (2, true)] (by decide) (by decide)]
  rw [bigSepL_cons', bigSepL_cons', bigSepL_cons', bigSepL_cons', bigSepL_cons', bigSepL_singleton]
  show iprop((slotE (F := F) 0 0 (op 0 c 2) (oc 0 c) ∗ slotE (F := F) 1 1 (ip 1 c 2) (ic 1 c))
    ∗ (slotE (F := F) 0 1 (op 1 c 2) (oc 1 c) ∗ slotE (F := F) 1 0 (ip 0 c 2) (ic 0 c))
    ∗ (slotE (F := F) 0 0 (op 0 c 1) (oc 0 c) ∗ slotE (F := F) 1 1 (ip 1 c 1) (ic 1 c))
    ∗ (slotE (F := F) 0 1 (op 1 c 1) (oc 1 c) ∗ slotE (F := F) 1 0 (ip 0 c 1) (ic 0 c))
    ∗ (slotE (F := F) 0 0 (op 0 c 0) (oc 0 c) ∗ slotE (F := F) 1 1 (ip 1 c 0) (ic 1 c))
    ∗ (slotE (F := F) 0 1 (op 1 c 0) (oc 1 c) ∗ slotE (F := F) 1 0 (ip 0 c 0) (ic 0 c))) ⊢ _
  iintro ⟨⟨A2, D2⟩, ⟨B2, C2⟩, ⟨A1, D1⟩, ⟨B1, C1⟩, ⟨A0, D0⟩, B0, C0⟩
  isplitl [A0 A1 A2]
  · isplitl [A0]; · iexact A0
    isplitl [A1] <;> iassumption
  isplitl [B0 B1 B2]
  · isplitl [B0]; · iexact B0
    isplitl [B1] <;> iassumption
  isplitl [C0 C1 C2]
  · isplitl [C0]; · iexact C0
    isplitl [C1] <;> iassumption
  isplitl [D0]; · iexact D0
  isplitl [D1] <;> iassumption

/-- The payment of this device to a peer of its plane, and to a peer of its place. -/
theorem pay_pl (o : Fin 3) : iprop(slotE (F := F) 0 0 c (adv (oc 0 c) o) ∗ slotE (F := F) 1 1 c (adv (ic 1 c) o)) ⊢ barPay (F := F) (pl c o) (o, false) := by
  show _ ⊢ iprop(slotE (F := F) 0 0 (pl (pl c o) o.rev) (pc (pl c o)) ∗ slotE (F := F) 1 1 (pl (pl c o) o.rev) (pc (pl c o)))
  rw [pl_rev, show pc (pl c o) = adv (oc 0 c) o from pc_dev _ _]
  exact Entails.refl _
theorem pay_zp (o : Fin 3) : iprop(slotE (F := F) 0 1 c (adv (oc 1 c) o) ∗ slotE (F := F) 1 0 c (adv (ic 0 c) o)) ⊢ barPay (F := F) (zp c o) (o, true) := by
  show _ ⊢ iprop(slotE (F := F) 0 1 (zp (zp c o) o.rev) (zc (zp c o)) ∗ slotE (F := F) 1 0 (zp (zp c o) o.rev) (zc (zp c o)))
  rw [zp_rev, show zc (zp c o) = adv (oc 1 c) o from zc_dev _ _]
  exact Entails.refl _
end Lands

end Cert.Hier

end
-- ==== Proof.Entry.lean ====
/-
The opening barrier, and the three copies of a stage of a half taken together.
-/
module

public import proofs.«01_k».proof.Proof.Parts

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → Vec F S1024x1024 .f32) (K : Dev nD × CI → ℕ)

set_option maxRecDepth 40000

/-- Three things, one per offset. -/
abbrev tri (X : Fin 3 → sProp 𝕄) : sProp 𝕄 := iprop(X 0 ∗ X 1 ∗ X 2)
/-- The rights of a stage of a half: to make its copies, to wait on its semaphores; and these semaphores at zero. -/
def tk3 (s : Fin 4) (h : Fin 2) (c : Dev nD) : sProp 𝕄 := tri fun o => tk (F := F) s h o c
def cw3 (b : Bool) (s : Fin 4) (h : Fin 2) (c : Dev nD) : sProp 𝕄 := tri fun o => cw (F := F) (b, s, h, o) c
def zv3 (b : Bool) (s : Fin 4) (h : Fin 2) (c : Dev nD) : sProp 𝕄 := tri fun o => zv (F := F) (b, s, h, o) c

/-! ## The barrier -/

theorem mem_duty_bar (c : Dev nD) (d : Duty) : d ∈ (Rd A).duties (cellAt c none) 0 := by
  rw [duties_bar]; exact Finset.mem_univ _

theorem wp_bsig (c n : Dev nD) (o : Fin 3) (b : Bool) (hn : n = tgt (.inl (o, b)) c) (l : List PI) {m : ℕ} (hm : m = 1)
    {α : Type} {Q : α → sProp 𝕄} {k : PUnit → Prog (TpuEff nD τ sig (Elt F) Λ₀ .tc) α} :
    iprop(recs A K ∗ barPay (F := F) (tgt (.inl (o, b)) c) (o, b) ∗ dutyTok ER (cellAt (tgt (.inl (o, b)) c) none) 0 (o, b) ∗ ow c (.inl (o, b) :: l))
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS m) k) Q) := by
  subst hn hm
  unfold ow
  iintro ⟨#HR, Hp, Ht, %W, HO⟩ Hk
  ihave #HI := (recs_inv A K (tgt (.inl (o, b)) c) none) $$ HR
  ihave #Hr := (recs_reached A K (tgt (.inl (o, b)) c) none) $$ HR
  iapply (Rounds.wp_signal 𝒱₀ ER (Rd A) (c : Thread nD τ) none (dst := (tgt (.inl (o, b)) c : Thread nD τ)) (κ := K (tgt (.inl (o, b)) c, none))
      (d := (o, b)) (mem_duty_bar A (tgt (.inl (o, b)) c) (o, b)) (amount_bar A (tgt (.inl (o, b)) c) (o, b)) () (debt l c) rfl)
    $$ [HO Ht Hp]
  · isplitr; · iexact HI
    isplitl [HO]; · iexact HO
    isplitl [Ht]; · iexact Ht
    isplitl [Hp]
    · iapply (show barPay (F := F) (tgt (.inl (o, b)) c) (o, b) ⊢ (Rd A).payload ((tgt (.inl (o, b)) c : Thread nD τ), SemLoc.reg barS) 0 (o, b) from Entails.of_eq (payload_bar A _ _).symm); iexact Hp
    · iexact Hr
  iintro HO
  iapply Hk
  iexists W; iexact HO

/-- The right to wait on the barrier, and the six payments of a device. -/
def bw (c : Dev nD) : sProp 𝕄 := iprop(cred (tallyAt (cellAt c none) () 6) ∗ atPos ER (cellAt c none) 0 ∅ 0)
def bt (c : Dev nD) : sProp 𝕄 :=
  iprop((tri fun o => dutyTok ER (cellAt (pl c o) none) 0 (o, false)) ∗ (tri fun o => dutyTok ER (cellAt (zp c o) none) 0 (o, true)))

/-- The slots that a device's peers hand to it. -/
def bars (c : Dev nD) : sProp 𝕄 :=
  iprop((slotE (F := F) 0 0 (op 0 c 0) (oc 0 c) ∗ slotE (F := F) 0 0 (op 0 c 1) (oc 0 c) ∗ slotE (F := F) 0 0 (op 0 c 2) (oc 0 c))
    ∗ (slotE (F := F) 0 1 (op 1 c 0) (oc 1 c) ∗ slotE (F := F) 0 1 (op 1 c 1) (oc 1 c) ∗ slotE (F := F) 0 1 (op 1 c 2) (oc 1 c))
    ∗ (slotE (F := F) 1 0 (ip 0 c 0) (ic 0 c) ∗ slotE (F := F) 1 0 (ip 0 c 1) (ic 0 c) ∗ slotE (F := F) 1 0 (ip 0 c 2) (ic 0 c))
    ∗ (slotE (F := F) 1 1 (ip 1 c 0) (ic 1 c) ∗ slotE (F := F) 1 1 (ip 1 c 1) (ic 1 c) ∗ slotE (F := F) 1 1 (ip 1 c 2) (ic 1 c)))
/-- The slots of a device that it hands to its peers. -/
def hands (s h : Fin 2) (k : Fin 4) (c : Dev nD) : sProp 𝕄 := tri fun o => slotE (F := F) s h c (adv k o)

theorem wp_bwait (c : Dev nD) {m : ℕ} (hm : m = 6)
    {α : Type} {Q : α → sProp 𝕄} {k : PUnit → Prog (TpuEff nD τ sig (Elt F) Λ₀ .tc) α} :
    iprop(recs A K ∗ bw c ∗ ow c l0)
      ⊢ iprop(((ow c l0 ∗ semVal (cellAt c none) 0 ∗ bars c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS m) k) Q) := by
  subst hm
  unfold bw ow
  iintro ⟨#HR, ⟨Hc, Hat⟩, %W, HO⟩ Hk
  ihave #HI := (recs_inv A K c none) $$ HR
  ihave #HL := (recs_lev A K) $$ HR
  iapply (Rounds.wp_wait_rest_token 𝒱₀ ER (Rd A) (c : Thread nD τ) none (κ := K (c, none))
      (wpE_semWait_eq 𝒱₀ (c : Thread nD τ) none Set.univ) (Set.mem_univ _) () (O := debt l0 c) (W := W) (R := 0) (m := 0) (T := ∅)
      (by rw [Nat.zero_add]; exact (expect_bar A c).symm)) $$ [Hc HO Hat]
  · isplitr; · iexact HI
    isplitl [Hc]; · iexact Hc
    isplitl [HO]; · iexact HO
    isplitr
    · iapply (mayWait_debt c (.reg barS) l0 (by decide))
      iexact HL
    iexact Hat
  iintro ⟨HO, Hat, -, Hpay⟩
  ihave Hp := (show bigSep ((Rd A).duties ((c : Thread nD τ), SemLoc.reg barS) 0 \ ∅) (fun d => (Rd A).payload ((c : Thread nD τ), SemLoc.reg barS) 0 d) ⊢ bars (F := F) c
    from (Entails.of_eq (rest_bar A c)).trans (barPays c)) $$ Hpay
  imod (Rounds.cell_close ER (Rd A) (Set.mem_univ (K (c, none))) (fun h => h) (R := 0 + 1) (duties_later A (cellAt c none))) $$ [Hat] with Hz
  · isplitr; · iexact HI
    iexact Hat
  iapply Hk
  isplitl [HO]; · iexists _; iexact HO
  isplitl [Hz] <;> iassumption

/-- The six signals of the opening. -/
theorem wp_bsig6 (c n0 n1 n2 n3 n4 n5 : Dev nD) (h0 : n0 = pl c 0) (h1 : n1 = zp c 0) (h2 : n2 = pl c 1) (h3 : n3 = zp c 1) (h4 : n4 = pl c 2) (h5 : n5 = zp c 2)
    {m : ℕ} (hm : m = 1) {α : Type} {Q : α → sProp 𝕄} {k : PUnit → Prog (TpuEff nD τ sig (Elt F) Λ₀ .tc) α} :
    iprop(recs A K ∗ (hands (F := F) 0 0 (oc 0 c) c ∗ hands (F := F) 0 1 (oc 1 c) c ∗ hands (F := F) 1 0 (ic 0 c) c ∗ hands (F := F) 1 1 (ic 1 c) c) ∗ bt c ∗ ow c lAll)
      ⊢ iprop((ow c l0 -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (n0 : Thread nD τ) barS m) fun _ => .op (.semSignal (n1 : Thread nD τ) barS m) fun _ => .op (.semSignal (n2 : Thread nD τ) barS m) fun _ =>
              .op (.semSignal (n3 : Thread nD τ) barS m) fun _ => .op (.semSignal (n4 : Thread nD τ) barS m) fun _ => .op (.semSignal (n5 : Thread nD τ) barS m) k) Q) := by
  unfold hands bt tri
  iintro ⟨#HR, ⟨⟨A0, A1, A2⟩, ⟨B0, B1, B2⟩, ⟨C0, C1, C2⟩, ⟨D0, D1, D2⟩⟩, ⟨⟨T0, T1, T2⟩, U0, U1, U2⟩, HO⟩ Hk
  iapply (wp_bsig A K c _ 0 false h0 _ hm) $$ [A0 D0 T0 HO]
  · isplitr; · iexact HR
    isplitl [A0 D0]
    · iapply (pay_pl (F := F) c 0)
      isplitl [A0] <;> iassumption
    isplitl [T0]; · iexact T0
    iexact HO
  iintro HO
  iapply (wp_bsig A K c _ 0 true h1 _ hm) $$ [B0 C0 U0 HO]
  · isplitr; · iexact HR
    isplitl [B0 C0]
    · iapply (pay_zp (F := F) c 0)
      isplitl [B0] <;> iassumption
    isplitl [U0]; · iexact U0
    iexact HO
  iintro HO
  iapply (wp_bsig A K c _ 1 false h2 _ hm) $$ [A1 D1 T1 HO]
  · isplitr; · iexact HR
    isplitl [A1 D1]
    · iapply (pay_pl (F := F) c 1)
      isplitl [A1] <;> iassumption
    isplitl [T1]; · iexact T1
    iexact HO
  iintro HO
  iapply (wp_bsig A K c _ 1 true h3 _ hm) $$ [B1 C1 U1 HO]
  · isplitr; · iexact HR
    isplitl [B1 C1]
    · iapply (pay_zp (F := F) c 1)
      isplitl [B1] <;> iassumption
    isplitl [U1]; · iexact U1
    iexact HO
  iintro HO
  iapply (wp_bsig A K c _ 2 false h4 _ hm) $$ [A2 D2 T2 HO]
  · isplitr; · iexact HR
    isplitl [A2 D2]
    · iapply (pay_pl (F := F) c 2)
      isplitl [A2] <;> iassumption
    isplitl [T2]; · iexact T2
    iexact HO
  iintro HO
  iapply (wp_bsig A K c _ 2 true h5 _ hm) $$ [B2 C2 U2 HO]
  · isplitr; · iexact HR
    isplitl [B2 C2]
    · iapply (pay_zp (F := F) c 2)
      isplitl [B2] <;> iassumption
    isplitl [U2]; · iexact U2
    iexact HO
  iintro HO
  iapply Hk
  iexact HO

/-! ## Copies by threes -/

theorem wp_w3 (c : Dev nD) (b : Bool) (s : Fin 4) (h : Fin 2) (l : List PI) (hl : ∀ i ∈ l, lev (some (some (b, s, h, 0))) < lev (some (pci i)))
    (q0 q1 q2 : DmaSem sig) (hq0 : q0 = dsem (b, s, h, 0)) (hq1 : q1 = dsem (b, s, h, 1)) (hq2 : q2 = dsem (b, s, h, 2))
    {sp sp' : Space} {S S' : Shape} {src0 src1 src2 : Memref sig .tc sp' S' .f32} {dst0 dst1 dst2 : Memref sig .tc sp S .f32}
    {hs0 : src0.view.WordExact} {hs1 : src1.view.WordExact} {hs2 : src2.view.WordExact}
    {hd0 : dst0.view.WordExact} {hd1 : dst1.view.WordExact} {hd2 : dst2.view.WordExact}
    (hN0 : dst0.view.dmaCredit = amt s h) (hN1 : dst1.view.dmaCredit = amt s h) (hN2 : dst2.view.dmaCredit = amt s h)
    {α : Type} {Q : α → sProp 𝕄} {k : PUnit → Prog (TpuEff nD τ sig (Elt F) Λ₀ .tc) α} :
    iprop(recs A K ∗ cw3 b s h c ∗ ow c l)
      ⊢ iprop(((ow c l ∗ zv3 b s h c ∗ xPay A (b, s, h, 0) c ∗ xPay A (b, s, h, 1) c ∗ xPay A (b, s, h, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 dst0 hs0 hd0) fun _ => .op (.waitDma2 q1 src1 dst1 hs1 hd1) fun _ => .op (.waitDma2 q2 src2 dst2 hs2 hd2) k) Q) :=
  wp_dwait3 A K c b s h l hl q0 q1 q2 hq0 hq1 hq2 hN0 hN1 hN2

/-- The same, the awaited copies being rectangles of the out buffer. -/
theorem wp_wo (c : Dev nD) (b : Bool) (s : Fin 4) (h : Fin 2) (l : List PI) (hl : ∀ i ∈ l, lev (some (some (b, s, h, 0))) < lev (some (pci i)))
    (sz : Fin 2 → ℕ) (hN : ∀ off inb, (oM sz off inb).view.dmaCredit = amt s h)
    (q0 q1 q2 : DmaSem sig) (hq0 : q0 = dsem (b, s, h, 0)) (hq1 : q1 = dsem (b, s, h, 1)) (hq2 : q2 = dsem (b, s, h, 2))
    {sp' : Space} {S' : Shape} {src0 src1 src2 : Memref sig .tc sp' S' .f32} {off0 off1 off2 : Fin 2 → ℕ} {inb0 inb1 inb2}
    {hs0 : src0.view.WordExact} {hs1 : src1.view.WordExact} {hs2 : src2.view.WordExact}
    {hd0 : (oM sz off0 inb0).view.WordExact} {hd1 : (oM sz off1 inb1).view.WordExact} {hd2 : (oM sz off2 inb2).view.WordExact}
    {α : Type} {Q : α → sProp 𝕄} {k : PUnit → Prog (TpuEff nD τ sig (Elt F) Λ₀ .tc) α} :
    iprop(recs A K ∗ cw3 b s h c ∗ ow c l)
      ⊢ iprop(((ow c l ∗ zv3 b s h c ∗ xPay A (b, s, h, 0) c ∗ xPay A (b, s, h, 1) c ∗ xPay A (b, s, h, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 (oM sz off0 inb0) hs0 hd0) fun _ => .op (.waitDma2 q1 src1 (oM sz off1 inb1) hs1 hd1) fun _ =>
              .op (.waitDma2 q2 src2 (oM sz off2 inb2) hs2 hd2) k) Q) :=
  wp_dwait3 A K c b s h l hl q0 q1 q2 hq0 hq1 hq2 (hN _ _) (hN _ _) (hN _ _)

theorem wp_wg00 (c : Dev nD) (l : List PI) (hl : ∀ i ∈ l, lev (some (some (true, 0, 0, 0))) < lev (some (pci i)))
    (q0 q1 q2 : DmaSem sig) (hq0 : q0 = dsem (true, 0, 0, 0)) (hq1 : q1 = dsem (true, 0, 0, 1)) (hq2 : q2 = dsem (true, 0, 0, 2))
    {sp' : Space} {S' : Shape} {src0 src1 src2 : Memref sig .tc sp' S' .f32} {off0 off1 off2 : Fin 3 → ℕ} {inb0 inb1 inb2}
    {hs0 : src0.view.WordExact} {hs1 : src1.view.WordExact} {hs2 : src2.view.WordExact}
    {hd0 : (gM00 off0 inb0).view.WordExact} {hd1 : (gM00 off1 inb1).view.WordExact} {hd2 : (gM00 off2 inb2).view.WordExact}
    {α : Type} {Q : α → sProp 𝕄} {k : PUnit → Prog (TpuEff nD τ sig (Elt F) Λ₀ .tc) α} :
    iprop(recs A K ∗ cw3 true 0 0 c ∗ ow c l)
      ⊢ iprop(((ow c l ∗ zv3 true 0 0 c ∗ xPay A (true, 0, 0, 0) c ∗ xPay A (true, 0, 0, 1) c ∗ xPay A (true, 0, 0, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 (gM00 off0 inb0) hs0 hd0) fun _ => .op (.waitDma2 q1 src1 (gM00 off1 inb1) hs1 hd1) fun _ =>
              .op (.waitDma2 q2 src2 (gM00 off2 inb2) hs2 hd2) k) Q) :=
  wp_dwait3 A K c true 0 0 l hl q0 q1 q2 hq0 hq1 hq2 rfl rfl rfl

theorem wp_wg01 (c : Dev nD) (l : List PI) (hl : ∀ i ∈ l, lev (some (some (true, 0, 1, 0))) < lev (some (pci i)))
    (q0 q1 q2 : DmaSem sig) (hq0 : q0 = dsem (true, 0, 1, 0)) (hq1 : q1 = dsem (true, 0, 1, 1)) (hq2 : q2 = dsem (true, 0, 1, 2))
    {sp' : Space} {S' : Shape} {src0 src1 src2 : Memref sig .tc sp' S' .f32} {off0 off1 off2 : Fin 3 → ℕ} {inb0 inb1 inb2}
    {hs0 : src0.view.WordExact} {hs1 : src1.view.WordExact} {hs2 : src2.view.WordExact}
    {hd0 : (gM01 off0 inb0).view.WordExact} {hd1 : (gM01 off1 inb1).view.WordExact} {hd2 : (gM01 off2 inb2).view.WordExact}
    {α : Type} {Q : α → sProp 𝕄} {k : PUnit → Prog (TpuEff nD τ sig (Elt F) Λ₀ .tc) α} :
    iprop(recs A K ∗ cw3 true 0 1 c ∗ ow c l)
      ⊢ iprop(((ow c l ∗ zv3 true 0 1 c ∗ xPay A (true, 0, 1, 0) c ∗ xPay A (true, 0, 1, 1) c ∗ xPay A (true, 0, 1, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 (gM01 off0 inb0) hs0 hd0) fun _ => .op (.waitDma2 q1 src1 (gM01 off1 inb1) hs1 hd1) fun _ =>
              .op (.waitDma2 q2 src2 (gM01 off2 inb2) hs2 hd2) k) Q) :=
  wp_dwait3 A K c true 0 1 l hl q0 q1 q2 hq0 hq1 hq2 rfl rfl rfl

theorem wp_wg10 (c : Dev nD) (l : List PI) (hl : ∀ i ∈ l, lev (some (some (true, 1, 0, 0))) < lev (some (pci i)))
    (q0 q1 q2 : DmaSem sig) (hq0 : q0 = dsem (true, 1, 0, 0)) (hq1 : q1 = dsem (true, 1, 0, 1)) (hq2 : q2 = dsem (true, 1, 0, 2))
    {sp' : Space} {S' : Shape} {src0 src1 src2 : Memref sig .tc sp' S' .f32} {off0 off1 off2 : Fin 3 → ℕ} {inb0 inb1 inb2}
    {hs0 : src0.view.WordExact} {hs1 : src1.view.WordExact} {hs2 : src2.view.WordExact}
    {hd0 : (gM10 off0 inb0).view.WordExact} {hd1 : (gM10 off1 inb1).view.WordExact} {hd2 : (gM10 off2 inb2).view.WordExact}
    {α : Type} {Q : α → sProp 𝕄} {k : PUnit → Prog (TpuEff nD τ sig (Elt F) Λ₀ .tc) α} :
    iprop(recs A K ∗ cw3 true 1 0 c ∗ ow c l)
      ⊢ iprop(((ow c l ∗ zv3 true 1 0 c ∗ xPay A (true, 1, 0, 0) c ∗ xPay A (true, 1, 0, 1) c ∗ xPay A (true, 1, 0, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 (gM10 off0 inb0) hs0 hd0) fun _ => .op (.waitDma2 q1 src1 (gM10 off1 inb1) hs1 hd1) fun _ =>
              .op (.waitDma2 q2 src2 (gM10 off2 inb2) hs2 hd2) k) Q) :=
  wp_dwait3 A K c true 1 0 l hl q0 q1 q2 hq0 hq1 hq2 rfl rfl rfl

theorem wp_wg11 (c : Dev nD) (l : List PI) (hl : ∀ i ∈ l, lev (some (some (true, 1, 1, 0))) < lev (some (pci i)))
    (q0 q1 q2 : DmaSem sig) (hq0 : q0 = dsem (true, 1, 1, 0)) (hq1 : q1 = dsem (true, 1, 1, 1)) (hq2 : q2 = dsem (true, 1, 1, 2))
    {sp' : Space} {S' : Shape} {src0 src1 src2 : Memref sig .tc sp' S' .f32} {off0 off1 off2 : Fin 3 → ℕ} {inb0 inb1 inb2}
    {hs0 : src0.view.WordExact} {hs1 : src1.view.WordExact} {hs2 : src2.view.WordExact}
    {hd0 : (gM11 off0 inb0).view.WordExact} {hd1 : (gM11 off1 inb1).view.WordExact} {hd2 : (gM11 off2 inb2).view.WordExact}
    {α : Type} {Q : α → sProp 𝕄} {k : PUnit → Prog (TpuEff nD τ sig (Elt F) Λ₀ .tc) α} :
    iprop(recs A K ∗ cw3 true 1 1 c ∗ ow c l)
      ⊢ iprop(((ow c l ∗ zv3 true 1 1 c ∗ xPay A (true, 1, 1, 0) c ∗ xPay A (true, 1, 1, 1) c ∗ xPay A (true, 1, 1, 2) c)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q0 src0 (gM11 off0 inb0) hs0 hd0) fun _ => .op (.waitDma2 q1 src1 (gM11 off1 inb1) hs1 hd1) fun _ =>
              .op (.waitDma2 q2 src2 (gM11 off2 inb2) hs2 hd2) k) Q) :=
  wp_dwait3 A K c true 1 1 l hl q0 q1 q2 hq0 hq1 hq2 rfl rfl rfl

/-! ## A landing buffer at the start: the slot that a device keeps, and those that it hands to its peers -/

theorem cut00 (c : Dev nD) (k : Fin 4) (f : Vec F S4x256x640 .f32) :
    (((c : Thread nD τ).loc cc0_scratch0) ↦{fullShare} f : sProp 𝕄) ⊢ iprop(gP00 c k f ∗ hands 0 0 k c) := by
  rw [slots00 k]
  unfold hands tri
  show _ ⊢ iprop(gP00 c k f ∗ (∃ f, gP00 c (adv k 0) f) ∗ (∃ f, gP00 c (adv k 1) f) ∗ (∃ f, gP00 c (adv k 2) f))
  iintro ⟨H, H0, H1, H2⟩
  isplitl [H]; · iexact H
  isplitl [H0]; · iexists f; iexact H0
  isplitl [H1]; · iexists f; iexact H1
  iexists f; iexact H2

theorem cut01 (c : Dev nD) (k : Fin 4) (f : Vec F S4x256x384 .f32) :
    (((c : Thread nD τ).loc cc0_scratch2) ↦{fullShare} f : sProp 𝕄) ⊢ iprop(gP01 c k f ∗ hands 0 1 k c) := by
  rw [slots01 k]
  unfold hands tri
  show _ ⊢ iprop(gP01 c k f ∗ (∃ f, gP01 c (adv k 0) f) ∗ (∃ f, gP01 c (adv k 1) f) ∗ (∃ f, gP01 c (adv k 2) f))
  iintro ⟨H, H0, H1, H2⟩
  isplitl [H]; · iexact H
  isplitl [H0]; · iexists f; iexact H0
  isplitl [H1]; · iexists f; iexact H1
  iexists f; iexact H2

theorem cut10 (c : Dev nD) (k : Fin 4) (f : Vec F S4x64x640 .f32) :
    (((c : Thread nD τ).loc cc0_scratch1) ↦{fullShare} f : sProp 𝕄) ⊢ iprop(gP10 c k f ∗ hands 1 0 k c) := by
  rw [slots10 k]
  unfold hands tri
  show _ ⊢ iprop(gP10 c k f ∗ (∃ f, gP10 c (adv k 0) f) ∗ (∃ f, gP10 c (adv k 1) f) ∗ (∃ f, gP10 c (adv k 2) f))
  iintro ⟨H, H0, H1, H2⟩
  isplitl [H]; · iexact H
  isplitl [H0]; · iexists f; iexact H0
  isplitl [H1]; · iexists f; iexact H1
  iexists f; iexact H2

theorem cut11 (c : Dev nD) (k : Fin 4) (f : Vec F S4x64x384 .f32) :
    (((c : Thread nD τ).loc cc0_scratch3) ↦{fullShare} f : sProp 𝕄) ⊢ iprop(gP11 c k f ∗ hands 1 1 k c) := by
  rw [slots11 k]
  unfold hands tri
  show _ ⊢ iprop(gP11 c k f ∗ (∃ f, gP11 c (adv k 0) f) ∗ (∃ f, gP11 c (adv k 1) f) ∗ (∃ f, gP11 c (adv k 2) f))
  iintro ⟨H, H0, H1, H2⟩
  isplitl [H]; · iexact H
  isplitl [H0]; · iexists f; iexact H0
  isplitl [H1]; · iexists f; iexact H1
  iexists f; iexact H2

section Sends
variable (c n0 n1 n2 : Dev nD) (l : List PI) (qs0 qr0 qs1 qr1 qs2 qr2 : DmaSem sig)

theorem wp_g00 (hn0 : n0 = peer 0 0 c 0) (hn1 : n1 = peer 0 0 c 1) (hn2 : n2 = peer 0 0 c 2)
    (hqs0 : qs0 = dsem (false, 0, 0, 0)) (hqr0 : qr0 = dsem (true, 0, 0, 0)) (hqs1 : qs1 = dsem (false, 0, 0, 1)) (hqr1 : qr1 = dsem (true, 0, 0, 1)) (hqs2 : qs2 = dsem (false, 0, 0, 2)) (hqr2 : qr2 = dsem (true, 0, 0, 2))
    {offS0 offS1 offS2 : Fin 2 → ℕ} {offD0 offD1 offD2 : Fin 3 → ℕ}
    (hS0 : offS0 = ![256 * (adv (oc 0 c) 0).val, 0]) (hS1 : offS1 = ![256 * (adv (oc 0 c) 1).val, 0]) (hS2 : offS2 = ![256 * (adv (oc 0 c) 2).val, 0])
    (hD0 : offD0 = ![(oc 0 c).val, 0, 0]) (hD1 : offD1 = ![(oc 0 c).val, 0, 0]) (hD2 : offD2 = ![(oc 0 c).val, 0, 0])
    {inbS0 inbS1 inbS2 inbD0 inbD1 inbD2}
    {hsc0 : (gM00 offD0 inbD0).view.ref.isScScratch = false} {hsrc0 : (oM S256x640.size offS0 inbS0).view.WordExact} {hdst0 : (gM00 offD0 inbD0).view.WordExact}
    {hsem0 : DmaTarget.Typed .vmem (.dma qr0) (.remote (Dev.tc n0 : Thread nD τ) (gM00 offD0 inbD0) (.dma qs0) hsc0)}
    {hsc1 : (gM00 offD1 inbD1).view.ref.isScScratch = false} {hsrc1 : (oM S256x640.size offS1 inbS1).view.WordExact} {hdst1 : (gM00 offD1 inbD1).view.WordExact}
    {hsem1 : DmaTarget.Typed .vmem (.dma qr1) (.remote (Dev.tc n1 : Thread nD τ) (gM00 offD1 inbD1) (.dma qs1) hsc1)}
    {hsc2 : (gM00 offD2 inbD2).view.ref.isScScratch = false} {hsrc2 : (oM S256x640.size offS2 inbS2).view.WordExact} {hdst2 : (gM00 offD2 inbD2).view.WordExact}
    {hsem2 : DmaTarget.Typed .vmem (.dma qr2) (.remote (Dev.tc n2 : Thread nD τ) (gM00 offD2 inbD2) (.dma qs2) hsc2)}
    {α : Type} {Q : α → sProp 𝕄} {k : PUnit → Prog (TpuEff nD τ sig (Elt F) Λ₀ .tc) α} :
    iprop(recs A K ∗ (oP c (oQ 0 (adv (oc 0 c) 0)) fullShare (A c) ∗ oP c (oQ 0 (adv (oc 0 c) 1)) fullShare (A c) ∗ oP c (oQ 0 (adv (oc 0 c) 2)) fullShare (A c))
        ∗ (slotE (F := F) 0 0 (op 0 c 0) (oc 0 c) ∗ slotE (F := F) 0 0 (op 0 c 1) (oc 0 c) ∗ slotE (F := F) 0 0 (op 0 c 2) (oc 0 c)) ∗ tk3 0 0 c ∗ ow c (grp 0 0 l))
      ⊢ iprop(((cw3 false 0 0 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x640.size offS0 inbS0) (.remote (Dev.tc n0 : Thread nD τ) (gM00 offD0 inbD0) (.dma qs0) hsc0) (.dma qr0) hsrc0 hdst0 hsem0) fun _ => .op (.enqueueDma (oM S256x640.size offS1 inbS1) (.remote (Dev.tc n1 : Thread nD τ) (gM00 offD1 inbD1) (.dma qs1) hsc1) (.dma qr1) hsrc1 hdst1 hsem1) fun _ => .op (.enqueueDma (oM S256x640.size offS2 inbS2) (.remote (Dev.tc n2 : Thread nD τ) (gM00 offD2 inbD2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s00 A K c n0 0 _ qs0 qr0 hn0 hqs0 hqr0 hS0 hD0) $$ [S0 D0 T0 HO]
  · isplitr; · iexact HR
    isplitl [S0]; · iexact S0
    isplitl [D0]; · iexact D0
    isplitl [T0] <;> iassumption
  iintro ⟨W0, HO⟩
  iapply (wp_s00 A K c n1 1 _ qs1 qr1 hn1 hqs1 hqr1 hS1 hD1) $$ [S1 D1 T1 HO]
  · isplitr; · iexact HR
    isplitl [S1]; · iexact S1
    isplitl [D1]; · iexact D1
    isplitl [T1] <;> iassumption
  iintro ⟨W1, HO⟩
  iapply (wp_s00 A K c n2 2 _ qs2 qr2 hn2 hqs2 hqr2 hS2 hD2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g01 (hn0 : n0 = peer 0 1 c 0) (hn1 : n1 = peer 0 1 c 1) (hn2 : n2 = peer 0 1 c 2)
    (hqs0 : qs0 = dsem (false, 0, 1, 0)) (hqr0 : qr0 = dsem (true, 0, 1, 0)) (hqs1 : qs1 = dsem (false, 0, 1, 1)) (hqr1 : qr1 = dsem (true, 0, 1, 1)) (hqs2 : qs2 = dsem (false, 0, 1, 2)) (hqr2 : qr2 = dsem (true, 0, 1, 2))
    {offS0 offS1 offS2 : Fin 2 → ℕ} {offD0 offD1 offD2 : Fin 3 → ℕ}
    (hS0 : offS0 = ![256 * (adv (oc 1 c) 0).val, 640]) (hS1 : offS1 = ![256 * (adv (oc 1 c) 1).val, 640]) (hS2 : offS2 = ![256 * (adv (oc 1 c) 2).val, 640])
    (hD0 : offD0 = ![(oc 1 c).val, 0, 0]) (hD1 : offD1 = ![(oc 1 c).val, 0, 0]) (hD2 : offD2 = ![(oc 1 c).val, 0, 0])
    {inbS0 inbS1 inbS2 inbD0 inbD1 inbD2}
    {hsc0 : (gM01 offD0 inbD0).view.ref.isScScratch = false} {hsrc0 : (oM S256x384.size offS0 inbS0).view.WordExact} {hdst0 : (gM01 offD0 inbD0).view.WordExact}
    {hsem0 : DmaTarget.Typed .vmem (.dma qr0) (.remote (Dev.tc n0 : Thread nD τ) (gM01 offD0 inbD0) (.dma qs0) hsc0)}
    {hsc1 : (gM01 offD1 inbD1).view.ref.isScScratch = false} {hsrc1 : (oM S256x384.size offS1 inbS1).view.WordExact} {hdst1 : (gM01 offD1 inbD1).view.WordExact}
    {hsem1 : DmaTarget.Typed .vmem (.dma qr1) (.remote (Dev.tc n1 : Thread nD τ) (gM01 offD1 inbD1) (.dma qs1) hsc1)}
    {hsc2 : (gM01 offD2 inbD2).view.ref.isScScratch = false} {hsrc2 : (oM S256x384.size offS2 inbS2).view.WordExact} {hdst2 : (gM01 offD2 inbD2).view.WordExact}
    {hsem2 : DmaTarget.Typed .vmem (.dma qr2) (.remote (Dev.tc n2 : Thread nD τ) (gM01 offD2 inbD2) (.dma qs2) hsc2)}
    {α : Type} {Q : α → sProp 𝕄} {k : PUnit → Prog (TpuEff nD τ sig (Elt F) Λ₀ .tc) α} :
    iprop(recs A K ∗ (oP c (oQ 1 (adv (oc 1 c) 0)) fullShare (A c) ∗ oP c (oQ 1 (adv (oc 1 c) 1)) fullShare (A c) ∗ oP c (oQ 1 (adv (oc 1 c) 2)) fullShare (A c))
        ∗ (slotE (F := F) 0 1 (op 1 c 0) (oc 1 c) ∗ slotE (F := F) 0 1 (op 1 c 1) (oc 1 c) ∗ slotE (F := F) 0 1 (op 1 c 2) (oc 1 c)) ∗ tk3 0 1 c ∗ ow c (grp 0 1 l))
      ⊢ iprop(((cw3 false 0 1 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x384.size offS0 inbS0) (.remote (Dev.tc n0 : Thread nD τ) (gM01 offD0 inbD0) (.dma qs0) hsc0) (.dma qr0) hsrc0 hdst0 hsem0) fun _ => .op (.enqueueDma (oM S256x384.size offS1 inbS1) (.remote (Dev.tc n1 : Thread nD τ) (gM01 offD1 inbD1) (.dma qs1) hsc1) (.dma qr1) hsrc1 hdst1 hsem1) fun _ => .op (.enqueueDma (oM S256x384.size offS2 inbS2) (.remote (Dev.tc n2 : Thread nD τ) (gM01 offD2 inbD2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s01 A K c n0 0 _ qs0 qr0 hn0 hqs0 hqr0 hS0 hD0) $$ [S0 D0 T0 HO]
  · isplitr; · iexact HR
    isplitl [S0]; · iexact S0
    isplitl [D0]; · iexact D0
    isplitl [T0] <;> iassumption
  iintro ⟨W0, HO⟩
  iapply (wp_s01 A K c n1 1 _ qs1 qr1 hn1 hqs1 hqr1 hS1 hD1) $$ [S1 D1 T1 HO]
  · isplitr; · iexact HR
    isplitl [S1]; · iexact S1
    isplitl [D1]; · iexact D1
    isplitl [T1] <;> iassumption
  iintro ⟨W1, HO⟩
  iapply (wp_s01 A K c n2 2 _ qs2 qr2 hn2 hqs2 hqr2 hS2 hD2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g10 (hn0 : n0 = peer 1 0 c 0) (hn1 : n1 = peer 1 0 c 1) (hn2 : n2 = peer 1 0 c 2)
    (hqs0 : qs0 = dsem (false, 1, 0, 0)) (hqr0 : qr0 = dsem (true, 1, 0, 0)) (hqs1 : qs1 = dsem (false, 1, 0, 1)) (hqr1 : qr1 = dsem (true, 1, 0, 1)) (hqs2 : qs2 = dsem (false, 1, 0, 2)) (hqr2 : qr2 = dsem (true, 1, 0, 2))
    {offS0 offS1 offS2 : Fin 2 → ℕ} {offD0 offD1 offD2 : Fin 3 → ℕ}
    (hS0 : offS0 = ![256 * (oc 0 c).val + 64 * (adv (ic 0 c) 0).val, 0]) (hS1 : offS1 = ![256 * (oc 0 c).val + 64 * (adv (ic 0 c) 1).val, 0]) (hS2 : offS2 = ![256 * (oc 0 c).val + 64 * (adv (ic 0 c) 2).val, 0])
    (hD0 : offD0 = ![(ic 0 c).val, 0, 0]) (hD1 : offD1 = ![(ic 0 c).val, 0, 0]) (hD2 : offD2 = ![(ic 0 c).val, 0, 0])
    {inbS0 inbS1 inbS2 inbD0 inbD1 inbD2}
    {hsc0 : (gM10 offD0 inbD0).view.ref.isScScratch = false} {hsrc0 : (oM S64x640.size offS0 inbS0).view.WordExact} {hdst0 : (gM10 offD0 inbD0).view.WordExact}
    {hsem0 : DmaTarget.Typed .vmem (.dma qr0) (.remote (Dev.tc n0 : Thread nD τ) (gM10 offD0 inbD0) (.dma qs0) hsc0)}
    {hsc1 : (gM10 offD1 inbD1).view.ref.isScScratch = false} {hsrc1 : (oM S64x640.size offS1 inbS1).view.WordExact} {hdst1 : (gM10 offD1 inbD1).view.WordExact}
    {hsem1 : DmaTarget.Typed .vmem (.dma qr1) (.remote (Dev.tc n1 : Thread nD τ) (gM10 offD1 inbD1) (.dma qs1) hsc1)}
    {hsc2 : (gM10 offD2 inbD2).view.ref.isScScratch = false} {hsrc2 : (oM S64x640.size offS2 inbS2).view.WordExact} {hdst2 : (gM10 offD2 inbD2).view.WordExact}
    {hsem2 : DmaTarget.Typed .vmem (.dma qr2) (.remote (Dev.tc n2 : Thread nD τ) (gM10 offD2 inbD2) (.dma qs2) hsc2)}
    {α : Type} {Q : α → sProp 𝕄} {k : PUnit → Prog (TpuEff nD τ sig (Elt F) Λ₀ .tc) α} :
    iprop(recs A K ∗ (oP c (oK 0 (oc 0 c) (adv (ic 0 c) 0)) fullShare (outB A c) ∗ oP c (oK 0 (oc 0 c) (adv (ic 0 c) 1)) fullShare (outB A c) ∗ oP c (oK 0 (oc 0 c) (adv (ic 0 c) 2)) fullShare (outB A c))
        ∗ (slotE (F := F) 1 0 (ip 0 c 0) (ic 0 c) ∗ slotE (F := F) 1 0 (ip 0 c 1) (ic 0 c) ∗ slotE (F := F) 1 0 (ip 0 c 2) (ic 0 c)) ∗ tk3 1 0 c ∗ ow c (grp 1 0 l))
      ⊢ iprop(((cw3 false 1 0 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x640.size offS0 inbS0) (.remote (Dev.tc n0 : Thread nD τ) (gM10 offD0 inbD0) (.dma qs0) hsc0) (.dma qr0) hsrc0 hdst0 hsem0) fun _ => .op (.enqueueDma (oM S64x640.size offS1 inbS1) (.remote (Dev.tc n1 : Thread nD τ) (gM10 offD1 inbD1) (.dma qs1) hsc1) (.dma qr1) hsrc1 hdst1 hsem1) fun _ => .op (.enqueueDma (oM S64x640.size offS2 inbS2) (.remote (Dev.tc n2 : Thread nD τ) (gM10 offD2 inbD2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s10 A K c n0 0 _ qs0 qr0 hn0 hqs0 hqr0 hS0 hD0) $$ [S0 D0 T0 HO]
  · isplitr; · iexact HR
    isplitl [S0]; · iexact S0
    isplitl [D0]; · iexact D0
    isplitl [T0] <;> iassumption
  iintro ⟨W0, HO⟩
  iapply (wp_s10 A K c n1 1 _ qs1 qr1 hn1 hqs1 hqr1 hS1 hD1) $$ [S1 D1 T1 HO]
  · isplitr; · iexact HR
    isplitl [S1]; · iexact S1
    isplitl [D1]; · iexact D1
    isplitl [T1] <;> iassumption
  iintro ⟨W1, HO⟩
  iapply (wp_s10 A K c n2 2 _ qs2 qr2 hn2 hqs2 hqr2 hS2 hD2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g11 (hn0 : n0 = peer 1 1 c 0) (hn1 : n1 = peer 1 1 c 1) (hn2 : n2 = peer 1 1 c 2)
    (hqs0 : qs0 = dsem (false, 1, 1, 0)) (hqr0 : qr0 = dsem (true, 1, 1, 0)) (hqs1 : qs1 = dsem (false, 1, 1, 1)) (hqr1 : qr1 = dsem (true, 1, 1, 1)) (hqs2 : qs2 = dsem (false, 1, 1, 2)) (hqr2 : qr2 = dsem (true, 1, 1, 2))
    {offS0 offS1 offS2 : Fin 2 → ℕ} {offD0 offD1 offD2 : Fin 3 → ℕ}
    (hS0 : offS0 = ![256 * (oc 1 c).val + 64 * (adv (ic 1 c) 0).val, 640]) (hS1 : offS1 = ![256 * (oc 1 c).val + 64 * (adv (ic 1 c) 1).val, 640]) (hS2 : offS2 = ![256 * (oc 1 c).val + 64 * (adv (ic 1 c) 2).val, 640])
    (hD0 : offD0 = ![(ic 1 c).val, 0, 0]) (hD1 : offD1 = ![(ic 1 c).val, 0, 0]) (hD2 : offD2 = ![(ic 1 c).val, 0, 0])
    {inbS0 inbS1 inbS2 inbD0 inbD1 inbD2}
    {hsc0 : (gM11 offD0 inbD0).view.ref.isScScratch = false} {hsrc0 : (oM S64x384.size offS0 inbS0).view.WordExact} {hdst0 : (gM11 offD0 inbD0).view.WordExact}
    {hsem0 : DmaTarget.Typed .vmem (.dma qr0) (.remote (Dev.tc n0 : Thread nD τ) (gM11 offD0 inbD0) (.dma qs0) hsc0)}
    {hsc1 : (gM11 offD1 inbD1).view.ref.isScScratch = false} {hsrc1 : (oM S64x384.size offS1 inbS1).view.WordExact} {hdst1 : (gM11 offD1 inbD1).view.WordExact}
    {hsem1 : DmaTarget.Typed .vmem (.dma qr1) (.remote (Dev.tc n1 : Thread nD τ) (gM11 offD1 inbD1) (.dma qs1) hsc1)}
    {hsc2 : (gM11 offD2 inbD2).view.ref.isScScratch = false} {hsrc2 : (oM S64x384.size offS2 inbS2).view.WordExact} {hdst2 : (gM11 offD2 inbD2).view.WordExact}
    {hsem2 : DmaTarget.Typed .vmem (.dma qr2) (.remote (Dev.tc n2 : Thread nD τ) (gM11 offD2 inbD2) (.dma qs2) hsc2)}
    {α : Type} {Q : α → sProp 𝕄} {k : PUnit → Prog (TpuEff nD τ sig (Elt F) Λ₀ .tc) α} :
    iprop(recs A K ∗ (oP c (oK 1 (oc 1 c) (adv (ic 1 c) 0)) fullShare (outB A c) ∗ oP c (oK 1 (oc 1 c) (adv (ic 1 c) 1)) fullShare (outB A c) ∗ oP c (oK 1 (oc 1 c) (adv (ic 1 c) 2)) fullShare (outB A c))
        ∗ (slotE (F := F) 1 1 (ip 1 c 0) (ic 1 c) ∗ slotE (F := F) 1 1 (ip 1 c 1) (ic 1 c) ∗ slotE (F := F) 1 1 (ip 1 c 2) (ic 1 c)) ∗ tk3 1 1 c ∗ ow c (grp 1 1 l))
      ⊢ iprop(((cw3 false 1 1 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x384.size offS0 inbS0) (.remote (Dev.tc n0 : Thread nD τ) (gM11 offD0 inbD0) (.dma qs0) hsc0) (.dma qr0) hsrc0 hdst0 hsem0) fun _ => .op (.enqueueDma (oM S64x384.size offS1 inbS1) (.remote (Dev.tc n1 : Thread nD τ) (gM11 offD1 inbD1) (.dma qs1) hsc1) (.dma qr1) hsrc1 hdst1 hsem1) fun _ => .op (.enqueueDma (oM S64x384.size offS2 inbS2) (.remote (Dev.tc n2 : Thread nD τ) (gM11 offD2 inbD2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s11 A K c n0 0 _ qs0 qr0 hn0 hqs0 hqr0 hS0 hD0) $$ [S0 D0 T0 HO]
  · isplitr; · iexact HR
    isplitl [S0]; · iexact S0
    isplitl [D0]; · iexact D0
    isplitl [T0] <;> iassumption
  iintro ⟨W0, HO⟩
  iapply (wp_s11 A K c n1 1 _ qs1 qr1 hn1 hqs1 hqr1 hS1 hD1) $$ [S1 D1 T1 HO]
  · isplitr; · iexact HR
    isplitl [S1]; · iexact S1
    isplitl [D1]; · iexact D1
    isplitl [T1] <;> iassumption
  iintro ⟨W1, HO⟩
  iapply (wp_s11 A K c n2 2 _ qs2 qr2 hn2 hqs2 hqr2 hS2 hD2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g20 (hn0 : n0 = peer 2 0 c 0) (hn1 : n1 = peer 2 0 c 1) (hn2 : n2 = peer 2 0 c 2)
    (hqs0 : qs0 = dsem (false, 2, 0, 0)) (hqr0 : qr0 = dsem (true, 2, 0, 0)) (hqs1 : qs1 = dsem (false, 2, 0, 1)) (hqr1 : qr1 = dsem (true, 2, 0, 1)) (hqs2 : qs2 = dsem (false, 2, 0, 2)) (hqr2 : qr2 = dsem (true, 2, 0, 2))
    {offS0 offS1 offS2 : Fin 2 → ℕ}
    (hS0 : offS0 = ![256 * (oc 0 c).val + 64 * (ic 0 c).val, 0]) (hS1 : offS1 = ![256 * (oc 0 c).val + 64 * (ic 0 c).val, 0]) (hS2 : offS2 = ![256 * (oc 0 c).val + 64 * (ic 0 c).val, 0])
    (fd0 fd1 fd2 : Vec F S1024x1024 .f32)
    {inbS0 inbS1 inbS2}
    {hsc0 : (oM S64x640.size offS0 inbS0).view.ref.isScScratch = false} {hsrc0 : (oM S64x640.size offS0 inbS0).view.WordExact} {hdst0 : (oM S64x640.size offS0 inbS0).view.WordExact}
    {hsem0 : DmaTarget.Typed .vmem (.dma qr0) (.remote (Dev.tc n0 : Thread nD τ) (oM S64x640.size offS0 inbS0) (.dma qs0) hsc0)}
    {hsc1 : (oM S64x640.size offS1 inbS1).view.ref.isScScratch = false} {hsrc1 : (oM S64x640.size offS1 inbS1).view.WordExact} {hdst1 : (oM S64x640.size offS1 inbS1).view.WordExact}
    {hsem1 : DmaTarget.Typed .vmem (.dma qr1) (.remote (Dev.tc n1 : Thread nD τ) (oM S64x640.size offS1 inbS1) (.dma qs1) hsc1)}
    {hsc2 : (oM S64x640.size offS2 inbS2).view.ref.isScScratch = false} {hsrc2 : (oM S64x640.size offS2 inbS2).view.WordExact} {hdst2 : (oM S64x640.size offS2 inbS2).view.WordExact}
    {hsem2 : DmaTarget.Typed .vmem (.dma qr2) (.remote (Dev.tc n2 : Thread nD τ) (oM S64x640.size offS2 inbS2) (.dma qs2) hsc2)}
    {α : Type} {Q : α → sProp 𝕄} {k : PUnit → Prog (TpuEff nD τ sig (Elt F) Λ₀ .tc) α} :
    iprop(recs A K ∗ (oP c (oK 0 (oc 0 c) (ic 0 c)) (sh3 fullShare.left 0) (finV A) ∗ oP c (oK 0 (oc 0 c) (ic 0 c)) (sh3 fullShare.left 1) (finV A) ∗ oP c (oK 0 (oc 0 c) (ic 0 c)) (sh3 fullShare.left 2) (finV A))
        ∗ (oP (ip 0 c 0) (oK 0 (oc 0 c) (ic 0 c)) fullShare fd0 ∗ oP (ip 0 c 1) (oK 0 (oc 0 c) (ic 0 c)) fullShare fd1 ∗ oP (ip 0 c 2) (oK 0 (oc 0 c) (ic 0 c)) fullShare fd2) ∗ tk3 2 0 c ∗ ow c (grp 2 0 l))
      ⊢ iprop(((cw3 false 2 0 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x640.size offS0 inbS0) (.remote (Dev.tc n0 : Thread nD τ) (oM S64x640.size offS0 inbS0) (.dma qs0) hsc0) (.dma qr0) hsrc0 hdst0 hsem0) fun _ => .op (.enqueueDma (oM S64x640.size offS1 inbS1) (.remote (Dev.tc n1 : Thread nD τ) (oM S64x640.size offS1 inbS1) (.dma qs1) hsc1) (.dma qr1) hsrc1 hdst1 hsem1) fun _ => .op (.enqueueDma (oM S64x640.size offS2 inbS2) (.remote (Dev.tc n2 : Thread nD τ) (oM S64x640.size offS2 inbS2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s20 A K c n0 0 _ qs0 qr0 hn0 hqs0 hqr0 hS0 fd0) $$ [S0 D0 T0 HO]
  · isplitr; · iexact HR
    isplitl [S0]; · iexact S0
    isplitl [D0]; · iexact D0
    isplitl [T0] <;> iassumption
  iintro ⟨W0, HO⟩
  iapply (wp_s20 A K c n1 1 _ qs1 qr1 hn1 hqs1 hqr1 hS1 fd1) $$ [S1 D1 T1 HO]
  · isplitr; · iexact HR
    isplitl [S1]; · iexact S1
    isplitl [D1]; · iexact D1
    isplitl [T1] <;> iassumption
  iintro ⟨W1, HO⟩
  iapply (wp_s20 A K c n2 2 _ qs2 qr2 hn2 hqs2 hqr2 hS2 fd2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g21 (hn0 : n0 = peer 2 1 c 0) (hn1 : n1 = peer 2 1 c 1) (hn2 : n2 = peer 2 1 c 2)
    (hqs0 : qs0 = dsem (false, 2, 1, 0)) (hqr0 : qr0 = dsem (true, 2, 1, 0)) (hqs1 : qs1 = dsem (false, 2, 1, 1)) (hqr1 : qr1 = dsem (true, 2, 1, 1)) (hqs2 : qs2 = dsem (false, 2, 1, 2)) (hqr2 : qr2 = dsem (true, 2, 1, 2))
    {offS0 offS1 offS2 : Fin 2 → ℕ}
    (hS0 : offS0 = ![256 * (oc 1 c).val + 64 * (ic 1 c).val, 640]) (hS1 : offS1 = ![256 * (oc 1 c).val + 64 * (ic 1 c).val, 640]) (hS2 : offS2 = ![256 * (oc 1 c).val + 64 * (ic 1 c).val, 640])
    (fd0 fd1 fd2 : Vec F S1024x1024 .f32)
    {inbS0 inbS1 inbS2}
    {hsc0 : (oM S64x384.size offS0 inbS0).view.ref.isScScratch = false} {hsrc0 : (oM S64x384.size offS0 inbS0).view.WordExact} {hdst0 : (oM S64x384.size offS0 inbS0).view.WordExact}
    {hsem0 : DmaTarget.Typed .vmem (.dma qr0) (.remote (Dev.tc n0 : Thread nD τ) (oM S64x384.size offS0 inbS0) (.dma qs0) hsc0)}
    {hsc1 : (oM S64x384.size offS1 inbS1).view.ref.isScScratch = false} {hsrc1 : (oM S64x384.size offS1 inbS1).view.WordExact} {hdst1 : (oM S64x384.size offS1 inbS1).view.WordExact}
    {hsem1 : DmaTarget.Typed .vmem (.dma qr1) (.remote (Dev.tc n1 : Thread nD τ) (oM S64x384.size offS1 inbS1) (.dma qs1) hsc1)}
    {hsc2 : (oM S64x384.size offS2 inbS2).view.ref.isScScratch = false} {hsrc2 : (oM S64x384.size offS2 inbS2).view.WordExact} {hdst2 : (oM S64x384.size offS2 inbS2).view.WordExact}
    {hsem2 : DmaTarget.Typed .vmem (.dma qr2) (.remote (Dev.tc n2 : Thread nD τ) (oM S64x384.size offS2 inbS2) (.dma qs2) hsc2)}
    {α : Type} {Q : α → sProp 𝕄} {k : PUnit → Prog (TpuEff nD τ sig (Elt F) Λ₀ .tc) α} :
    iprop(recs A K ∗ (oP c (oK 1 (oc 1 c) (ic 1 c)) (sh3 fullShare.left 0) (finV A) ∗ oP c (oK 1 (oc 1 c) (ic 1 c)) (sh3 fullShare.left 1) (finV A) ∗ oP c (oK 1 (oc 1 c) (ic 1 c)) (sh3 fullShare.left 2) (finV A))
        ∗ (oP (ip 1 c 0) (oK 1 (oc 1 c) (ic 1 c)) fullShare fd0 ∗ oP (ip 1 c 1) (oK 1 (oc 1 c) (ic 1 c)) fullShare fd1 ∗ oP (ip 1 c 2) (oK 1 (oc 1 c) (ic 1 c)) fullShare fd2) ∗ tk3 2 1 c ∗ ow c (grp 2 1 l))
      ⊢ iprop(((cw3 false 2 1 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S64x384.size offS0 inbS0) (.remote (Dev.tc n0 : Thread nD τ) (oM S64x384.size offS0 inbS0) (.dma qs0) hsc0) (.dma qr0) hsrc0 hdst0 hsem0) fun _ => .op (.enqueueDma (oM S64x384.size offS1 inbS1) (.remote (Dev.tc n1 : Thread nD τ) (oM S64x384.size offS1 inbS1) (.dma qs1) hsc1) (.dma qr1) hsrc1 hdst1 hsem1) fun _ => .op (.enqueueDma (oM S64x384.size offS2 inbS2) (.remote (Dev.tc n2 : Thread nD τ) (oM S64x384.size offS2 inbS2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s21 A K c n0 0 _ qs0 qr0 hn0 hqs0 hqr0 hS0 fd0) $$ [S0 D0 T0 HO]
  · isplitr; · iexact HR
    isplitl [S0]; · iexact S0
    isplitl [D0]; · iexact D0
    isplitl [T0] <;> iassumption
  iintro ⟨W0, HO⟩
  iapply (wp_s21 A K c n1 1 _ qs1 qr1 hn1 hqs1 hqr1 hS1 fd1) $$ [S1 D1 T1 HO]
  · isplitr; · iexact HR
    isplitl [S1]; · iexact S1
    isplitl [D1]; · iexact D1
    isplitl [T1] <;> iassumption
  iintro ⟨W1, HO⟩
  iapply (wp_s21 A K c n2 2 _ qs2 qr2 hn2 hqs2 hqr2 hS2 fd2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g30 (hn0 : n0 = peer 3 0 c 0) (hn1 : n1 = peer 3 0 c 1) (hn2 : n2 = peer 3 0 c 2)
    (hqs0 : qs0 = dsem (false, 3, 0, 0)) (hqr0 : qr0 = dsem (true, 3, 0, 0)) (hqs1 : qs1 = dsem (false, 3, 0, 1)) (hqr1 : qr1 = dsem (true, 3, 0, 1)) (hqs2 : qs2 = dsem (false, 3, 0, 2)) (hqr2 : qr2 = dsem (true, 3, 0, 2))
    {offS0 offS1 offS2 : Fin 2 → ℕ}
    (hS0 : offS0 = ![256 * (oc 0 c).val, 0]) (hS1 : offS1 = ![256 * (oc 0 c).val, 0]) (hS2 : offS2 = ![256 * (oc 0 c).val, 0])
    (fd0 fd1 fd2 : Vec F S1024x1024 .f32)
    {inbS0 inbS1 inbS2}
    {hsc0 : (oM S256x640.size offS0 inbS0).view.ref.isScScratch = false} {hsrc0 : (oM S256x640.size offS0 inbS0).view.WordExact} {hdst0 : (oM S256x640.size offS0 inbS0).view.WordExact}
    {hsem0 : DmaTarget.Typed .vmem (.dma qr0) (.remote (Dev.tc n0 : Thread nD τ) (oM S256x640.size offS0 inbS0) (.dma qs0) hsc0)}
    {hsc1 : (oM S256x640.size offS1 inbS1).view.ref.isScScratch = false} {hsrc1 : (oM S256x640.size offS1 inbS1).view.WordExact} {hdst1 : (oM S256x640.size offS1 inbS1).view.WordExact}
    {hsem1 : DmaTarget.Typed .vmem (.dma qr1) (.remote (Dev.tc n1 : Thread nD τ) (oM S256x640.size offS1 inbS1) (.dma qs1) hsc1)}
    {hsc2 : (oM S256x640.size offS2 inbS2).view.ref.isScScratch = false} {hsrc2 : (oM S256x640.size offS2 inbS2).view.WordExact} {hdst2 : (oM S256x640.size offS2 inbS2).view.WordExact}
    {hsem2 : DmaTarget.Typed .vmem (.dma qr2) (.remote (Dev.tc n2 : Thread nD τ) (oM S256x640.size offS2 inbS2) (.dma qs2) hsc2)}
    {α : Type} {Q : α → sProp 𝕄} {k : PUnit → Prog (TpuEff nD τ sig (Elt F) Λ₀ .tc) α} :
    iprop(recs A K ∗ (oP c (oQ 0 (oc 0 c)) (sh3 fullShare.right 0) (finV A) ∗ oP c (oQ 0 (oc 0 c)) (sh3 fullShare.right 1) (finV A) ∗ oP c (oQ 0 (oc 0 c)) (sh3 fullShare.right 2) (finV A))
        ∗ (oP (op 0 c 0) (oQ 0 (oc 0 c)) fullShare fd0 ∗ oP (op 0 c 1) (oQ 0 (oc 0 c)) fullShare fd1 ∗ oP (op 0 c 2) (oQ 0 (oc 0 c)) fullShare fd2) ∗ tk3 3 0 c ∗ ow c (grp 3 0 l))
      ⊢ iprop(((cw3 false 3 0 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x640.size offS0 inbS0) (.remote (Dev.tc n0 : Thread nD τ) (oM S256x640.size offS0 inbS0) (.dma qs0) hsc0) (.dma qr0) hsrc0 hdst0 hsem0) fun _ => .op (.enqueueDma (oM S256x640.size offS1 inbS1) (.remote (Dev.tc n1 : Thread nD τ) (oM S256x640.size offS1 inbS1) (.dma qs1) hsc1) (.dma qr1) hsrc1 hdst1 hsem1) fun _ => .op (.enqueueDma (oM S256x640.size offS2 inbS2) (.remote (Dev.tc n2 : Thread nD τ) (oM S256x640.size offS2 inbS2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s30 A K c n0 0 _ qs0 qr0 hn0 hqs0 hqr0 hS0 fd0) $$ [S0 D0 T0 HO]
  · isplitr; · iexact HR
    isplitl [S0]; · iexact S0
    isplitl [D0]; · iexact D0
    isplitl [T0] <;> iassumption
  iintro ⟨W0, HO⟩
  iapply (wp_s30 A K c n1 1 _ qs1 qr1 hn1 hqs1 hqr1 hS1 fd1) $$ [S1 D1 T1 HO]
  · isplitr; · iexact HR
    isplitl [S1]; · iexact S1
    isplitl [D1]; · iexact D1
    isplitl [T1] <;> iassumption
  iintro ⟨W1, HO⟩
  iapply (wp_s30 A K c n2 2 _ qs2 qr2 hn2 hqs2 hqr2 hS2 fd2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO

theorem wp_g31 (hn0 : n0 = peer 3 1 c 0) (hn1 : n1 = peer 3 1 c 1) (hn2 : n2 = peer 3 1 c 2)
    (hqs0 : qs0 = dsem (false, 3, 1, 0)) (hqr0 : qr0 = dsem (true, 3, 1, 0)) (hqs1 : qs1 = dsem (false, 3, 1, 1)) (hqr1 : qr1 = dsem (true, 3, 1, 1)) (hqs2 : qs2 = dsem (false, 3, 1, 2)) (hqr2 : qr2 = dsem (true, 3, 1, 2))
    {offS0 offS1 offS2 : Fin 2 → ℕ}
    (hS0 : offS0 = ![256 * (oc 1 c).val, 640]) (hS1 : offS1 = ![256 * (oc 1 c).val, 640]) (hS2 : offS2 = ![256 * (oc 1 c).val, 640])
    (fd0 fd1 fd2 : Vec F S1024x1024 .f32)
    {inbS0 inbS1 inbS2}
    {hsc0 : (oM S256x384.size offS0 inbS0).view.ref.isScScratch = false} {hsrc0 : (oM S256x384.size offS0 inbS0).view.WordExact} {hdst0 : (oM S256x384.size offS0 inbS0).view.WordExact}
    {hsem0 : DmaTarget.Typed .vmem (.dma qr0) (.remote (Dev.tc n0 : Thread nD τ) (oM S256x384.size offS0 inbS0) (.dma qs0) hsc0)}
    {hsc1 : (oM S256x384.size offS1 inbS1).view.ref.isScScratch = false} {hsrc1 : (oM S256x384.size offS1 inbS1).view.WordExact} {hdst1 : (oM S256x384.size offS1 inbS1).view.WordExact}
    {hsem1 : DmaTarget.Typed .vmem (.dma qr1) (.remote (Dev.tc n1 : Thread nD τ) (oM S256x384.size offS1 inbS1) (.dma qs1) hsc1)}
    {hsc2 : (oM S256x384.size offS2 inbS2).view.ref.isScScratch = false} {hsrc2 : (oM S256x384.size offS2 inbS2).view.WordExact} {hdst2 : (oM S256x384.size offS2 inbS2).view.WordExact}
    {hsem2 : DmaTarget.Typed .vmem (.dma qr2) (.remote (Dev.tc n2 : Thread nD τ) (oM S256x384.size offS2 inbS2) (.dma qs2) hsc2)}
    {α : Type} {Q : α → sProp 𝕄} {k : PUnit → Prog (TpuEff nD τ sig (Elt F) Λ₀ .tc) α} :
    iprop(recs A K ∗ (oP c (oQ 1 (oc 1 c)) (sh3 fullShare.right 0) (finV A) ∗ oP c (oQ 1 (oc 1 c)) (sh3 fullShare.right 1) (finV A) ∗ oP c (oQ 1 (oc 1 c)) (sh3 fullShare.right 2) (finV A))
        ∗ (oP (op 1 c 0) (oQ 1 (oc 1 c)) fullShare fd0 ∗ oP (op 1 c 1) (oQ 1 (oc 1 c)) fullShare fd1 ∗ oP (op 1 c 2) (oQ 1 (oc 1 c)) fullShare fd2) ∗ tk3 3 1 c ∗ ow c (grp 3 1 l))
      ⊢ iprop(((cw3 false 3 1 c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (oM S256x384.size offS0 inbS0) (.remote (Dev.tc n0 : Thread nD τ) (oM S256x384.size offS0 inbS0) (.dma qs0) hsc0) (.dma qr0) hsrc0 hdst0 hsem0) fun _ => .op (.enqueueDma (oM S256x384.size offS1 inbS1) (.remote (Dev.tc n1 : Thread nD τ) (oM S256x384.size offS1 inbS1) (.dma qs1) hsc1) (.dma qr1) hsrc1 hdst1 hsem1) fun _ => .op (.enqueueDma (oM S256x384.size offS2 inbS2) (.remote (Dev.tc n2 : Thread nD τ) (oM S256x384.size offS2 inbS2) (.dma qs2) hsc2) (.dma qr2) hsrc2 hdst2 hsem2) k) Q) := by
  unfold tk3 cw3 tri
  iintro ⟨#HR, ⟨S0, S1, S2⟩, ⟨D0, D1, D2⟩, ⟨T0, T1, T2⟩, HO⟩ Hk
  iapply (wp_s31 A K c n0 0 _ qs0 qr0 hn0 hqs0 hqr0 hS0 fd0) $$ [S0 D0 T0 HO]
  · isplitr; · iexact HR
    isplitl [S0]; · iexact S0
    isplitl [D0]; · iexact D0
    isplitl [T0] <;> iassumption
  iintro ⟨W0, HO⟩
  iapply (wp_s31 A K c n1 1 _ qs1 qr1 hn1 hqs1 hqr1 hS1 fd1) $$ [S1 D1 T1 HO]
  · isplitr; · iexact HR
    isplitl [S1]; · iexact S1
    isplitl [D1]; · iexact D1
    isplitl [T1] <;> iassumption
  iintro ⟨W1, HO⟩
  iapply (wp_s31 A K c n2 2 _ qs2 qr2 hn2 hqs2 hqr2 hS2 fd2) $$ [S2 D2 T2 HO]
  · isplitr; · iexact HR
    isplitl [S2]; · iexact S2
    isplitl [D2]; · iexact D2
    isplitl [T2] <;> iassumption
  iintro ⟨W2, HO⟩
  iapply Hk
  isplitl [W0 W1 W2]
  · isplitl [W0]; · iexact W0
    isplitl [W1] <;> iassumption
  iexact HO
end Sends

end Cert.Hier

end
-- ==== Proof.Body.lean ====
/-
The kernel's body on one device, from the rights that the device has at the start to the result in its out buffer.
-/
module

public import proofs.«01_k».proof.Proof.Entry

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x64 .f32) (Y : Dev nD → Vec F S64x1024 .f32) (K : Dev nD × CI → ℕ)

set_option maxRecDepth 40000

/-- The partial product of a device. -/
def part (c : Dev nD) : Vec F S1024x1024 .f32 := k0_pay3 (k0_pay2 (X c)) (Y c)
/-- The result, the same on every device. -/
def result : Vec F S1024x1024 .f32 := k0_pay1 (finV (part X Y))

/-- A buffer of a device, at some contents. -/
def some0 (c : Dev nD) : sProp 𝕄 := iprop(∃ f : Vec F S4x256x640 .f32, ((c : Thread nD τ).loc cc0_scratch0) ↦{fullShare} f)
def some1 (c : Dev nD) : sProp 𝕄 := iprop(∃ f : Vec F S4x64x640 .f32, ((c : Thread nD τ).loc cc0_scratch1) ↦{fullShare} f)
def some2 (c : Dev nD) : sProp 𝕄 := iprop(∃ f : Vec F S4x256x384 .f32, ((c : Thread nD τ).loc cc0_scratch2) ↦{fullShare} f)
def some3 (c : Dev nD) : sProp 𝕄 := iprop(∃ f : Vec F S4x64x384 .f32, ((c : Thread nD τ).loc cc0_scratch3) ↦{fullShare} f)

/-- The rights of a device in the protocol: its payments of the barrier, the wait on it, the copies and their landings. -/
def rights (c : Dev nD) : sProp 𝕄 :=
  iprop(bt c ∗ bw c ∗ (tk3 0 0 c ∗ tk3 0 1 c ∗ tk3 1 0 c ∗ tk3 1 1 c ∗ tk3 2 0 c ∗ tk3 2 1 c ∗ tk3 3 0 c ∗ tk3 3 1 c) ∗ (cw3 true 0 0 c ∗ cw3 true 0 1 c ∗ cw3 true 1 0 c ∗ cw3 true 1 1 c ∗ cw3 true 2 0 c ∗ cw3 true 2 1 c ∗ cw3 true 3 0 c ∗ cw3 true 3 1 c))
/-- The semaphores of a device at zero. -/
def zeros (c : Dev nD) : sProp 𝕄 :=
  iprop(semVal (cellAt c none) 0 ∗ (zv3 false 0 0 c ∗ zv3 false 0 1 c ∗ zv3 false 1 0 c ∗ zv3 false 1 1 c ∗ zv3 false 2 0 c ∗ zv3 false 2 1 c ∗ zv3 false 3 0 c ∗ zv3 false 3 1 c) ∗ (zv3 true 0 0 c ∗ zv3 true 0 1 c ∗ zv3 true 1 0 c ∗ zv3 true 1 1 c ∗ zv3 true 2 0 c ∗ zv3 true 2 1 c ∗ zv3 true 3 0 c ∗ zv3 true 3 1 c))

def bodyPre (c : Dev nD) : sProp 𝕄 :=
  iprop(recs (part X Y) K ∗ rights c ∗ ow c lAll ∗ (some0 c ∗ some1 c ∗ some2 c ∗ some3 c)
    ∗ (((c : Thread nD τ).loc cc0_stg0_0) ↦{fullShare} (X c)) ∗ (((c : Thread nD τ).loc cc0_stg1_0) ↦{fullShare} (Y c))
    ∗ (∃ f : Vec F S1024x1024 .f32, ((c : Thread nD τ).loc cc0_stg2_0) ↦{fullShare} f))
def bodyPost (c : Dev nD) : sProp 𝕄 :=
  iprop(zeros c ∗ ow c [] ∗ (some0 c ∗ some1 c ∗ some2 c ∗ some3 c)
    ∗ (((c : Thread nD τ).loc cc0_stg0_0) ↦{fullShare} (X c)) ∗ (((c : Thread nD τ).loc cc0_stg1_0) ↦{fullShare} (Y c))
    ∗ (((c : Thread nD τ).loc cc0_stg2_0) ↦{fullShare} (result X Y)))

theorem zero2 : (![0, 0] : Fin 2 → ℕ) = fun _ => 0 := by funext a; fin_cases a <;> rfl
/-- What the first store of the whole out buffer leaves, and the last. -/
theorem first_store (c : Dev nD) (fo : Vec F S1024x1024 .f32) :
    ((Memref.whole cc0_stg2_0 : Memref sig .tc .vmem S1024x1024 .f32).access (Rect.unit (s := S1024x1024) ![0, 0] S1024x1024.size inb_S1024x1024_S1024x1024_0_0)).write (Elt F) fo
      (k0_pay3 (k0_pay2 ((Memref.whole cc0_stg0_0 : Memref sig .tc .vmem S1024x64 .f32).view.readAt (Elt F) (Rect.unit (s := S1024x64) ![0, 0] S1024x64.size inb_S1024x64_S1024x64_0_0).toLoadRect (X c)))
        ((Memref.whole cc0_stg1_0 : Memref sig .tc .vmem S64x1024 .f32).view.readAt (Elt F) (Rect.unit (s := S64x1024) ![0, 0] S64x1024.size inb_S64x1024_S64x1024_0_0).toLoadRect (Y c))) Finset.univ
      = part X Y c :=
  (Memref.write_access_unit_zero_univ (Elt F) cc0_stg2_0 zero2 inb_S1024x1024_S1024x1024_0_0 fo _).trans
    ((congrArg (fun x => k0_pay3 (k0_pay2 x) _) (Memref.readAt_unit_zero (Elt F) cc0_stg0_0 zero2 inb_S1024x64_S1024x64_0_0 (X c))).trans
      (congrArg (fun y => k0_pay3 (k0_pay2 (X c)) y) (Memref.readAt_unit_zero (Elt F) cc0_stg1_0 zero2 inb_S64x1024_S64x1024_0_0 (Y c))))
theorem last_store :
    ((Memref.whole cc0_stg2_0 : Memref sig .tc .vmem S1024x1024 .f32).access (Rect.unit (s := S1024x1024) ![0, 0] S1024x1024.size inb_S1024x1024_S1024x1024_0_0)).write (Elt F) (finV (part X Y))
      (k0_pay1 ((Memref.whole cc0_stg2_0 : Memref sig .tc .vmem S1024x1024 .f32).view.readAt (Elt F) (Rect.unit (s := S1024x1024) ![0, 0] S1024x1024.size inb_S1024x1024_S1024x1024_0_0).toLoadRect (finV (part X Y)))) Finset.univ
      = result X Y :=
  (Memref.write_access_unit_zero_univ (Elt F) cc0_stg2_0 zero2 inb_S1024x1024_S1024x1024_0_0 (finV (part X Y)) _).trans
    (congrArg (fun x => k0_pay1 x) (Memref.readAt_unit_zero (Elt F) cc0_stg2_0 zero2 inb_S1024x1024_S1024x1024_0_0 (finV (part X Y))))

set_option maxHeartbeats 4000000 in
theorem sound_body (c : Dev nD) (Kt : PUnit → sProp 𝕄) :
    iprop(bodyPre X Y K c ∗ (bodyPost X Y c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel
  simp only [semSignalWord, semWaitWord, Prog.lift, Prog.bind_op, Prog.bind_ret, Prog.pure_eq_ret, Prog.bind_assoc, wp_deviceId]
  unfold bodyPre rights some0 some1 some2 some3
  iintro ⟨⟨#HR, ⟨Hbt, Hbw, ⟨T00, T01, T10, T11, T20, T21, T30, T31⟩, R00, R01, R10, R11, R20, R21, R30, R31⟩, HO, ⟨⟨%f0, G0⟩, ⟨%f1, G1⟩, ⟨%f2, G2⟩, %f3, G3⟩, HX, HY, %fo, Ho⟩, Hk⟩
  icases (cut00 c (oc 0 c) f0) $$ G0 with ⟨g00, H00⟩
  icases (cut01 c (oc 1 c) f2) $$ G2 with ⟨g01, H01⟩
  icases (cut10 c (ic 0 c) f1) $$ G1 with ⟨g10, H10⟩
  icases (cut11 c (ic 1 c) f3) $$ G3 with ⟨g11, H11⟩
  iapply (wp_bsig6 (part X Y) K c _ _ _ _ _ _ (dev1_eq c) (dev2_eq c) (dev3_eq c) (dev4_eq c) (dev5_eq c) (dev6_eq c) rfl) $$ [H00 H01 H10 H11 Hbt HO]
  · isplitr; · iexact HR
    isplitl [H00 H01 H10 H11]
    · isplitl [H00]; · iexact H00
      isplitl [H01]; · iexact H01
      isplitl [H10]; · iexact H10
      iexact H11
    isplitl [Hbt]; · iexact Hbt
    iexact HO
  iintro HO
  iapply (wp_bwait (part X Y) K c rfl) $$ [Hbw HO]
  · isplitr; · iexact HR
    isplitl [Hbw]; · iexact Hbw
    iexact HO
  iintro ⟨HO, HzB, Hb⟩
  unfold bars
  icases Hb with ⟨B00, B01, B10, B11⟩
  iapply (wp_load 𝒱₀ (c : Thread nD τ) none Set.univ (m := (Memref.whole cc0_stg0_0 : Memref sig .tc .vmem S1024x64 .f32)) (Finset.subset_univ _)) $$ HX; iintro HX
  iapply (wp_load 𝒱₀ (c : Thread nD τ) none Set.univ (m := (Memref.whole cc0_stg1_0 : Memref sig .tc .vmem S64x1024 .f32)) (Finset.subset_univ _)) $$ HY; iintro HY
  iapply (wp_load 𝒱₀ (c : Thread nD τ) none Set.univ (m := (Memref.whole cc0_stg2_0 : Memref sig .tc .vmem S1024x1024 .f32)) (Finset.subset_univ _)) $$ Ho; iintro Ho
  iapply (wp_store 𝒱₀ (c : Thread nD τ) none Set.univ (m := (Memref.whole cc0_stg2_0 : Memref sig .tc .vmem S1024x1024 .f32)) (r := Rect.unit (s := S1024x1024) ![0, 0] S1024x1024.size inb_S1024x1024_S1024x1024_0_0) (Mk := Finset.univ) (Finset.subset_univ _)) $$ Ho; iintro Ho
  icases (show (((c : Thread nD τ).loc cc0_stg2_0) ↦{fullShare} ((((Memref.whole cc0_stg2_0 : Memref sig .tc .vmem S1024x1024 .f32).access (Rect.unit (s := S1024x1024) ![0, 0] S1024x1024.size inb_S1024x1024_S1024x1024_0_0)).write (Elt F) fo (k0_pay3 (k0_pay2 ((Memref.whole cc0_stg0_0 : Memref sig .tc .vmem S1024x64 .f32).view.readAt (Elt F) (Rect.unit (s := S1024x64) ![0, 0] S1024x64.size inb_S1024x64_S1024x64_0_0).toLoadRect (X c))) ((Memref.whole cc0_stg1_0 : Memref sig .tc .vmem S64x1024 .f32).view.readAt (Elt F) (Rect.unit (s := S64x1024) ![0, 0] S64x1024.size inb_S64x1024_S64x1024_0_0).toLoadRect (Y c))) Finset.univ)) : sProp 𝕄) ⊢ iprop(quarters 0 (oc 0 c) c (part X Y c) ∗ quarters 1 (oc 1 c) c (part X Y c))
    from (Entails.of_eq (congrArg (fun f => (((c : Thread nD τ).loc cc0_stg2_0) ↦{fullShare} f : sProp 𝕄)) (first_store X Y c fo))).trans (Entails.of_eq (whole_out (oc 0 c) (oc 1 c) c (part X Y c)))) $$ Ho with ⟨Qa, Qb⟩
  unfold quarters
  icases Qa with ⟨Q0, E00⟩
  icases Qb with ⟨Q1, E01⟩
  iapply (wp_own00 (part X Y) c (off1_eq c) (off2_eq c) f0) $$ [Q0 g00]
  · isplitl [Q0]; · iexact Q0
    iexact g00
  iintro ⟨Q0, g00⟩
  iapply (wp_g00 (part X Y) K c _ _ _ _ _ _ _ _ _ _ (dev7_eq c) (dev8_eq c) (dev9_eq c) rfl rfl rfl rfl rfl rfl (off4_eq c 0) (off4_eq c 1) (off4_eq c 2) (off3_eq c) (off3_eq c) (off3_eq c)) $$ [E00 B00 T00 HO]
  · isplitr; · iexact HR
    isplitl [E00]; · iexact E00
    isplitl [B00]; · iexact B00
    isplitl [T00]; · iexact T00
    iexact HO
  iintro ⟨W00, HO⟩
  iapply (wp_own01 (part X Y) c (off5_eq c) (off6_eq c) f2) $$ [Q1 g01]
  · isplitl [Q1]; · iexact Q1
    iexact g01
  iintro ⟨Q1, g01⟩
  iapply (wp_g01 (part X Y) K c _ _ _ _ _ _ _ _ _ _ (dev10_eq c) (dev11_eq c) (dev12_eq c) rfl rfl rfl rfl rfl rfl (off8_eq c 0) (off8_eq c 1) (off8_eq c 2) (off7_eq c) (off7_eq c) (off7_eq c)) $$ [E01 B01 T01 HO]
  · isplitr; · iexact HR
    isplitl [E01]; · iexact E01
    isplitl [B01]; · iexact B01
    isplitl [T01]; · iexact T01
    iexact HO
  iintro ⟨W01, HO⟩
  iapply (wp_wg00 (part X Y) K c l2 (by decide) _ _ _ rfl rfl rfl) $$ [R00 HO]
  · isplitr; · iexact HR
    isplitl [R00]; · iexact R00
    iexact HO
  iintro ⟨HO, Zt00, Xt00⟩
  icases (lands00 (part X Y) c) $$ [g00 Xt00] with ⟨g00, P00⟩
  · isplitl [g00]; · iexact g00
    iexact Xt00
  iapply (wp_red00 (part X Y) c (off1_eq c) (part X Y c)) $$ [g00 Q0]
  · isplitl [g00]; · iexact g00
    iexact Q0
  iintro ⟨g00, Q0⟩
  icases (Entails.of_eq (blocks 0 (oc 0 c) (ic 0 c) c fullShare (outB (part X Y) c))) $$ Q0 with ⟨K0, E10⟩
  iapply (wp_own10 (part X Y) c (off9_eq c) (off10_eq c) f1) $$ [K0 g10]
  · isplitl [K0]; · iexact K0
    iexact g10
  iintro ⟨K0, g10⟩
  iapply (wp_g10 (part X Y) K c _ _ _ _ _ _ _ _ _ _ (dev13_eq c) (dev14_eq c) (dev15_eq c) rfl rfl rfl rfl rfl rfl (off12_eq c 0) (off12_eq c 1) (off12_eq c 2) (off11_eq c) (off11_eq c) (off11_eq c)) $$ [E10 B10 T10 HO]
  · isplitr; · iexact HR
    isplitl [E10]; · iexact E10
    isplitl [B10]; · iexact B10
    isplitl [T10]; · iexact T10
    iexact HO
  iintro ⟨W10, HO⟩
  iapply (wp_wg01 (part X Y) K c l3 (by decide) _ _ _ rfl rfl rfl) $$ [R01 HO]
  · isplitr; · iexact HR
    isplitl [R01]; · iexact R01
    iexact HO
  iintro ⟨HO, Zt01, Xt01⟩
  icases (lands01 (part X Y) c) $$ [g01 Xt01] with ⟨g01, P01⟩
  · isplitl [g01]; · iexact g01
    iexact Xt01
  iapply (wp_red01 (part X Y) c (off5_eq c) (part X Y c)) $$ [g01 Q1]
  · isplitl [g01]; · iexact g01
    iexact Q1
  iintro ⟨g01, Q1⟩
  icases (Entails.of_eq (blocks 1 (oc 1 c) (ic 1 c) c fullShare (outB (part X Y) c))) $$ Q1 with ⟨K1, E11⟩
  iapply (wp_own11 (part X Y) c (off13_eq c) (off14_eq c) f3) $$ [K1 g11]
  · isplitl [K1]; · iexact K1
    iexact g11
  iintro ⟨K1, g11⟩
  iapply (wp_g11 (part X Y) K c _ _ _ _ _ _ _ _ _ _ (dev16_eq c) (dev17_eq c) (dev18_eq c) rfl rfl rfl rfl rfl rfl (off16_eq c 0) (off16_eq c 1) (off16_eq c 2) (off15_eq c) (off15_eq c) (off15_eq c)) $$ [E11 B11 T11 HO]
  · isplitr; · iexact HR
    isplitl [E11]; · iexact E11
    isplitl [B11]; · iexact B11
    isplitl [T11]; · iexact T11
    iexact HO
  iintro ⟨W11, HO⟩
  iapply (wp_wg10 (part X Y) K c l4 (by decide) _ _ _ rfl rfl rfl) $$ [R10 HO]
  · isplitr; · iexact HR
    isplitl [R10]; · iexact R10
    iexact HO
  iintro ⟨HO, Zt10, Xt10⟩
  icases (lands10 (part X Y) c) $$ [g10 Xt10] with ⟨g10, P10⟩
  · isplitl [g10]; · iexact g10
    iexact Xt10
  iapply (wp_red10 (part X Y) c (off9_eq c) (outB (part X Y) c)) $$ [g10 K0]
  · isplitl [g10]; · iexact g10
    iexact K0
  iintro ⟨g10, K0⟩
  icases (Entails.of_eq (oP_halves c (oK 0 (oc 0 c) (ic 0 c)) fullShare (finV (part X Y)))) $$ K0 with ⟨KL0, KR0⟩
  ihave KL0 := (Entails.of_eq (oP_thirds c (oK 0 (oc 0 c) (ic 0 c)) fullShare.left (finV (part X Y)))) $$ KL0
  iapply (wp_g20 (part X Y) K c _ _ _ _ _ _ _ _ _ _ (dev19_eq c) (dev20_eq c) (dev21_eq c) rfl rfl rfl rfl rfl rfl (off17_eq c) (off17_eq c) (off17_eq c) (outB (part X Y) (ip 0 c 0)) (outB (part X Y) (ip 0 c 1)) (outB (part X Y) (ip 0 c 2))) $$ [KL0 P10 T20 HO]
  · isplitr; · iexact HR
    isplitl [KL0]; · iexact KL0
    isplitl [P10]; · iexact P10
    isplitl [T20]; · iexact T20
    iexact HO
  iintro ⟨W20, HO⟩
  iapply (wp_wg11 (part X Y) K c l5 (by decide) _ _ _ rfl rfl rfl) $$ [R11 HO]
  · isplitr; · iexact HR
    isplitl [R11]; · iexact R11
    iexact HO
  iintro ⟨HO, Zt11, Xt11⟩
  icases (lands11 (part X Y) c) $$ [g11 Xt11] with ⟨g11, P11⟩
  · isplitl [g11]; · iexact g11
    iexact Xt11
  iapply (wp_red11 (part X Y) c (off13_eq c) (outB (part X Y) c)) $$ [g11 K1]
  · isplitl [g11]; · iexact g11
    iexact K1
  iintro ⟨g11, K1⟩
  icases (Entails.of_eq (oP_halves c (oK 1 (oc 1 c) (ic 1 c)) fullShare (finV (part X Y)))) $$ K1 with ⟨KL1, KR1⟩
  ihave KL1 := (Entails.of_eq (oP_thirds c (oK 1 (oc 1 c) (ic 1 c)) fullShare.left (finV (part X Y)))) $$ KL1
  iapply (wp_g21 (part X Y) K c _ _ _ _ _ _ _ _ _ _ (dev22_eq c) (dev23_eq c) (dev24_eq c) rfl rfl rfl rfl rfl rfl (off18_eq c) (off18_eq c) (off18_eq c) (outB (part X Y) (ip 1 c 0)) (outB (part X Y) (ip 1 c 1)) (outB (part X Y) (ip 1 c 2))) $$ [KL1 P11 T21 HO]
  · isplitr; · iexact HR
    isplitl [KL1]; · iexact KL1
    isplitl [P11]; · iexact P11
    isplitl [T21]; · iexact T21
    iexact HO
  iintro ⟨W21, HO⟩
  iapply (wp_wo (part X Y) K c true 2 0 l6 (by decide) S64x640.size (fun _ _ => rfl) _ _ _ rfl rfl rfl) $$ [R20 HO]
  · isplitr; · iexact HR
    isplitl [R20]; · iexact R20
    iexact HO
  iintro ⟨HO, Zt20, Xt20⟩
  icases (lands2 (part X Y) c 0) $$ [KR0 Xt20] with ⟨L0, V0⟩
  · isplitl [KR0]; · iexact KR0
    iexact Xt20
  iapply (wp_g30 (part X Y) K c _ _ _ _ _ _ _ _ _ _ (dev25_eq c) (dev26_eq c) (dev27_eq c) rfl rfl rfl rfl rfl rfl (off19_eq c) (off19_eq c) (off19_eq c) (part X Y (op 0 c 0)) (part X Y (op 0 c 1)) (part X Y (op 0 c 2))) $$ [V0 P00 T30 HO]
  · isplitr; · iexact HR
    isplitl [V0]; · iexact V0
    isplitl [P00]; · iexact P00
    isplitl [T30]; · iexact T30
    iexact HO
  iintro ⟨W30, HO⟩
  iapply (wp_wo (part X Y) K c true 2 1 l7 (by decide) S64x384.size (fun _ _ => rfl) _ _ _ rfl rfl rfl) $$ [R21 HO]
  · isplitr; · iexact HR
    isplitl [R21]; · iexact R21
    iexact HO
  iintro ⟨HO, Zt21, Xt21⟩
  icases (lands2 (part X Y) c 1) $$ [KR1 Xt21] with ⟨L1, V1⟩
  · isplitl [KR1]; · iexact KR1
    iexact Xt21
  iapply (wp_g31 (part X Y) K c _ _ _ _ _ _ _ _ _ _ (dev28_eq c) (dev29_eq c) (dev30_eq c) rfl rfl rfl rfl rfl rfl (off20_eq c) (off20_eq c) (off20_eq c) (part X Y (op 1 c 0)) (part X Y (op 1 c 1)) (part X Y (op 1 c 2))) $$ [V1 P01 T31 HO]
  · isplitr; · iexact HR
    isplitl [V1]; · iexact V1
    isplitl [P01]; · iexact P01
    isplitl [T31]; · iexact T31
    iexact HO
  iintro ⟨W31, HO⟩
  iapply (wp_wo (part X Y) K c true 3 0 l8 (by decide) S256x640.size (fun _ _ => rfl) _ _ _ rfl rfl rfl) $$ [R30 HO]
  · isplitr; · iexact HR
    isplitl [R30]; · iexact R30
    iexact HO
  iintro ⟨HO, Zt30, Xt30⟩
  iapply (wp_wo (part X Y) K c true 3 1 l8 (by decide) S256x384.size (fun _ _ => rfl) _ _ _ rfl rfl rfl) $$ [R31 HO]
  · isplitr; · iexact HR
    isplitl [R31]; · iexact R31
    iexact HO
  iintro ⟨HO, Zt31, Xt31⟩
  iapply (wp_wo (part X Y) K c false 0 0 l8 (by decide) S256x640.size (fun _ _ => rfl) _ _ _ rfl rfl rfl) $$ [W00 HO]
  · isplitr; · iexact HR
    isplitl [W00]; · iexact W00
    iexact HO
  iintro ⟨HO, Zf00, -⟩
  iapply (wp_wo (part X Y) K c false 1 0 l8 (by decide) S64x640.size (fun _ _ => rfl) _ _ _ rfl rfl rfl) $$ [W10 HO]
  · isplitr; · iexact HR
    isplitl [W10]; · iexact W10
    iexact HO
  iintro ⟨HO, Zf10, -⟩
  iapply (wp_wo (part X Y) K c false 2 0 l8 (by decide) S64x640.size (fun _ _ => rfl) _ _ _ rfl rfl rfl) $$ [W20 HO]
  · isplitr; · iexact HR
    isplitl [W20]; · iexact W20
    iexact HO
  iintro ⟨HO, Zf20, Xf20⟩
  iapply (wp_wo (part X Y) K c false 3 0 l8 (by decide) S256x640.size (fun _ _ => rfl) _ _ _ rfl rfl rfl) $$ [W30 HO]
  · isplitr; · iexact HR
    isplitl [W30]; · iexact W30
    iexact HO
  iintro ⟨HO, Zf30, Xf30⟩
  iapply (wp_wo (part X Y) K c false 0 1 l8 (by decide) S256x384.size (fun _ _ => rfl) _ _ _ rfl rfl rfl) $$ [W01 HO]
  · isplitr; · iexact HR
    isplitl [W01]; · iexact W01
    iexact HO
  iintro ⟨HO, Zf01, -⟩
  iapply (wp_wo (part X Y) K c false 1 1 l8 (by decide) S64x384.size (fun _ _ => rfl) _ _ _ rfl rfl rfl) $$ [W11 HO]
  · isplitr; · iexact HR
    isplitl [W11]; · iexact W11
    iexact HO
  iintro ⟨HO, Zf11, -⟩
  iapply (wp_wo (part X Y) K c false 2 1 l8 (by decide) S64x384.size (fun _ _ => rfl) _ _ _ rfl rfl rfl) $$ [W21 HO]
  · isplitr; · iexact HR
    isplitl [W21]; · iexact W21
    iexact HO
  iintro ⟨HO, Zf21, Xf21⟩
  iapply (wp_wo (part X Y) K c false 3 1 l8 (by decide) S256x384.size (fun _ _ => rfl) _ _ _ rfl rfl rfl) $$ [W31 HO]
  · isplitr; · iexact HR
    isplitl [W31]; · iexact W31
    iexact HO
  iintro ⟨HO, Zf31, Xf31⟩
  ihave N0 := (ends (part X Y) c 0) $$ [L0 Xf20 Xf30 Xt30]
  · isplitl [L0]; · iexact L0
    isplitl [Xf20]; · iexact Xf20
    isplitl [Xf30]; · iexact Xf30
    iexact Xt30
  ihave N1 := (ends (part X Y) c 1) $$ [L1 Xf21 Xf31 Xt31]
  · isplitl [L1]; · iexact L1
    isplitl [Xf21]; · iexact Xf21
    isplitl [Xf31]; · iexact Xf31
    iexact Xt31
  ihave Ho := (show iprop(quarters 0 (oc 0 c) c (finV (part X Y)) ∗ quarters 1 (oc 1 c) c (finV (part X Y))) ⊢ (((c : Thread nD τ).loc cc0_stg2_0) ↦{fullShare} (finV (part X Y)) : sProp 𝕄)
    from Entails.of_eq (whole_out (oc 0 c) (oc 1 c) c (finV (part X Y))).symm) $$ [N0 N1]
  · isplitl [N0] <;> iassumption
  iapply (wp_load 𝒱₀ (c : Thread nD τ) none Set.univ (m := (Memref.whole cc0_stg2_0 : Memref sig .tc .vmem S1024x1024 .f32)) (Finset.subset_univ _)) $$ Ho; iintro Ho
  iapply (wp_load 𝒱₀ (c : Thread nD τ) none Set.univ (m := (Memref.whole cc0_stg2_0 : Memref sig .tc .vmem S1024x1024 .f32)) (Finset.subset_univ _)) $$ Ho; iintro Ho
  iapply (wp_store 𝒱₀ (c : Thread nD τ) none Set.univ (m := (Memref.whole cc0_stg2_0 : Memref sig .tc .vmem S1024x1024 .f32)) (r := Rect.unit (s := S1024x1024) ![0, 0] S1024x1024.size inb_S1024x1024_S1024x1024_0_0) (Mk := Finset.univ) (Finset.subset_univ _)) $$ Ho; iintro Ho
  ihave Ho := (show (((c : Thread nD τ).loc cc0_stg2_0) ↦{fullShare} (((Memref.whole cc0_stg2_0 : Memref sig .tc .vmem S1024x1024 .f32).access (Rect.unit (s := S1024x1024) ![0, 0] S1024x1024.size inb_S1024x1024_S1024x1024_0_0)).write (Elt F) (finV (part X Y)) (k0_pay1 ((Memref.whole cc0_stg2_0 : Memref sig .tc .vmem S1024x1024 .f32).view.readAt (Elt F) (Rect.unit (s := S1024x1024) ![0, 0] S1024x1024.size inb_S1024x1024_S1024x1024_0_0).toLoadRect (finV (part X Y)))) Finset.univ) : sProp 𝕄) ⊢ (((c : Thread nD τ).loc cc0_stg2_0) ↦{fullShare} (result X Y))
    from Entails.of_eq (congrArg (fun f => (((c : Thread nD τ).loc cc0_stg2_0) ↦{fullShare} f : sProp 𝕄)) (last_store X Y))) $$ Ho
  rw [wp_ret]
  imodintro
  iapply Hk
  unfold bodyPost zeros some0 some1 some2 some3
  isplitl [HzB Zf00 Zf01 Zf10 Zf11 Zf20 Zf21 Zf30 Zf31 Zt00 Zt01 Zt10 Zt11 Zt20 Zt21 Zt30 Zt31]
  · isplitl [HzB]; · iexact HzB
    isplitl [Zf00 Zf01 Zf10 Zf11 Zf20 Zf21 Zf30 Zf31]
    · isplitl [Zf00]; · iexact Zf00
      isplitl [Zf01]; · iexact Zf01
      isplitl [Zf10]; · iexact Zf10
      isplitl [Zf11]; · iexact Zf11
      isplitl [Zf20]; · iexact Zf20
      isplitl [Zf21]; · iexact Zf21
      isplitl [Zf30]; · iexact Zf30
      iexact Zf31
    isplitl [Zt00]; · iexact Zt00
    isplitl [Zt01]; · iexact Zt01
    isplitl [Zt10]; · iexact Zt10
    isplitl [Zt11]; · iexact Zt11
    isplitl [Zt20]; · iexact Zt20
    isplitl [Zt21]; · iexact Zt21
    isplitl [Zt30]; · iexact Zt30
    iexact Zt31
  isplitl [HO]; · iexact HO
  isplitl [g00 g10 g01 g11]
  · isplitl [g00]; · iexists _; iexact g00
    isplitl [g10]; · iexists _; iexact g10
    isplitl [g01]; · iexists _; iexact g01
    iexists _; iexact g11
  isplitl [HX]; · iexact HX
  isplitl [HY]; · iexact HY
  iexact Ho

end Cert.Hier

end
-- ==== Proof.Launch.lean ====
/-
The launch on all devices: what is handed to each device at the start, the pipeline's obligation from the body's proof,
and the run of the whole program.
-/
module

public import proofs.«01_k».proof.Proof.Body
public import proofs.«01_k».proof.Proof.Gen.KernelIdeal.Points

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 40000

/-! ## Things conjoined over the semaphores -/

/-- A copy's stage, half and offset. -/
abbrev T3 : Type := Fin 4 × Fin 2 × Fin 3

/-- One thing per stage and half. -/
abbrev oct (Φ : Fin 4 → Fin 2 → sProp 𝕄) : sProp 𝕄 :=
  iprop(Φ 0 0 ∗ Φ 0 1 ∗ Φ 1 0 ∗ Φ 1 1 ∗ Φ 2 0 ∗ Φ 2 1 ∗ Φ 3 0 ∗ Φ 3 1)

theorem sep_tri (Φ : Fin 3 → sProp 𝕄) : bigSep Finset.univ Φ = tri Φ :=
  bigSep_univ_eq_bigSepL [0, 1, 2] (by decide) (by decide) Φ
theorem sep_oct (Φ : Fin 4 × Fin 2 → sProp 𝕄) : bigSep Finset.univ Φ = oct fun s h => Φ (s, h) :=
  bigSep_univ_eq_bigSepL [(0, 0), (0, 1), (1, 0), (1, 1), (2, 0), (2, 1), (3, 0), (3, 1)] (by decide) (by decide) Φ
theorem sep_t3 (Φ : T3 → sProp 𝕄) : bigSep Finset.univ Φ = oct fun s h => tri fun o => Φ (s, h, o) := by
  rw [bigSep_univ_equiv (Equiv.prodAssoc (Fin 4) (Fin 2) (Fin 3)) Φ, bigSep_univ_prod, sep_oct]
  simp only [sep_tri]; rfl
theorem sep_xi (Φ : XI → sProp 𝕄) :
    bigSep Finset.univ Φ = iprop((bigSep Finset.univ fun t : T3 => Φ (false, t)) ∗ bigSep Finset.univ fun t : T3 => Φ (true, t)) := by
  rw [bigSep_univ_prod]
  exact bigSep_univ_eq_bigSepL [false, true] (by decide) (by decide) fun b => bigSep Finset.univ fun t : T3 => Φ (b, t)
theorem univ_ci : (Finset.univ : Finset CI) = insert none (Finset.univ.map ⟨some, Option.some_injective XI⟩) := by
  ext x; cases x <;> simp
theorem sep_ci (Φ : CI → sProp 𝕄) : bigSep Finset.univ Φ = iprop(Φ none ∗ bigSep Finset.univ fun x : XI => Φ (some x)) := by
  rw [univ_ci, BI.bigSep_insert (by simp), bigSep_map]; rfl
theorem sep_duty (Φ : Duty → sProp 𝕄) :
    bigSep Finset.univ Φ = iprop(Φ (0, false) ∗ Φ (0, true) ∗ Φ (1, false) ∗ Φ (1, true) ∗ Φ (2, false) ∗ Φ (2, true)) :=
  bigSep_univ_eq_bigSepL [(0, false), (0, true), (1, false), (1, true), (2, false), (2, true)] (by decide) (by decide) Φ

/-- The copies in the order of the debts. -/
def t3s : List T3 :=
  [(0, 0, 0), (0, 0, 1), (0, 0, 2), (0, 1, 0), (0, 1, 1), (0, 1, 2), (1, 0, 0), (1, 0, 1), (1, 0, 2), (1, 1, 0), (1, 1, 1), (1, 1, 2),
   (2, 0, 0), (2, 0, 1), (2, 0, 2), (2, 1, 0), (2, 1, 1), (2, 1, 2), (3, 0, 0), (3, 0, 1), (3, 0, 2), (3, 1, 0), (3, 1, 1), (3, 1, 2)]

/-! ## The credit at the start -/

theorem cred_two (g : GSem nD τ sig) (a b : ℕ) :
    (iprop(cred (tallyAt g () a) ∗ cred (tallyAt g () b)) : sProp 𝕄) ⊢ cred (tallyAt g () (a + b)) := by
  rw [← tallyAt_add]; exact (cred_add _ _).2

/-- The credit of the landings of a device. -/
def landCreds (c : Dev nD) : sProp 𝕄 := bigSep Finset.univ fun t : T3 => cred (tallyAt (cellAt c (some (true, t))) () (amt t.1 t.2.1))

theorem land_list (c : Dev nD) :
    (bigSepL l0 fun i => (cred (tallyAt (cellAt c (pci i)) () (pamt i)) : sProp 𝕄)) = landCreds c := by
  unfold landCreds
  rw [bigSep_univ_eq_bigSepL t3s (by decide) (by decide)]
  rfl

theorem creds (c : Dev nD) :
    (Pipeline.launchCred (debt lAll) c : sProp 𝕄) ⊢ iprop(cred (tallyAt (cellAt c none) () 6) ∗ landCreds c) := by
  refine (cred_debt lAll c).trans ?_
  rw [bigSepL_cons', bigSepL_cons', bigSepL_cons', bigSepL_cons', bigSepL_cons', bigSepL_cons', land_list]
  iintro ⟨H0, H1, H2, H3, H4, H5, HL⟩
  isplitr [HL]
  · ihave H1 := (cred_two (F := F) (cellAt c none) 1 1) $$ [H0 H1]
    · isplitl [H0]; · iexact H0
      iexact H1
    ihave H2 := (cred_two (F := F) (cellAt c none) 2 1) $$ [H1 H2]
    · isplitl [H1]; · iexact H1
      iexact H2
    ihave H3 := (cred_two (F := F) (cellAt c none) 3 1) $$ [H2 H3]
    · isplitl [H2]; · iexact H2
      iexact H3
    ihave H4 := (cred_two (F := F) (cellAt c none) 4 1) $$ [H3 H4]
    · isplitl [H3]; · iexact H3
      iexact H4
    iapply (cred_two (F := F) (cellAt c none) 5 1)
    isplitl [H4]; · iexact H4
    iexact H5
  · iexact HL

/-! ## The tokens and the rights -/

theorem kcell_injective : Function.Injective (fun x : Dev nD × CI => cellAt x.1 x.2) := by
  rintro ⟨c, k⟩ ⟨c', k'⟩ h
  have h1 : c = c' := congrArg (fun g : GSem nD τ sig => g.1.1) h
  have h2 : k = k' := semOf_inj (congrArg Prod.snd h)
  rw [h1, h2]
def hierCells : Finset (GSem nD τ sig) := Finset.univ.map ⟨_, kcell_injective⟩

/-- The payments that a device makes: the barrier's, and at its copies' semaphores. -/
abbrev JI : Type := Duty ⊕ XI
def payAt (c : Dev nD) : JI → GSem nD τ sig × ℕ × Duty
  | .inl (o, b) => (cellAt (tgt (.inl (o, b)) c) none, 0, (o, b))
  | .inr (b, s, h, o) => (cellAt (if b then peer s h c o else c) (some (b, s, h, o)), 0, (0, false))
theorem payAt_injective : Function.Injective (fun x : Dev nD × JI => payAt x.1 x.2) := by
  rintro ⟨c, j⟩ ⟨c', j'⟩ h
  dsimp only at h
  rcases j with ⟨o, b⟩ | ⟨b, s, k, o⟩ <;> rcases j' with ⟨o', b'⟩ | ⟨b', s', k', o'⟩
  · have h3 : (o, b) = (o', b') := congrArg (fun x : GSem nD τ sig × ℕ × Duty => x.2.2) h
    obtain ⟨rfl, rfl⟩ := Prod.mk.inj h3
    have h1 : tgt (.inl (o, b)) c = tgt (.inl (o, b)) c' := congrArg (fun x : GSem nD τ sig × ℕ × Duty => x.1.1.1) h
    have h2 := congrArg (inv (.inl (o, b))) h1
    rw [inv_tgt, inv_tgt] at h2
    rw [h2]
  · have h1 : semOf none = semOf (some (b', s', k', o')) := congrArg (fun x : GSem nD τ sig × ℕ × Duty => x.1.2) h
    exact absurd (semOf_inj h1) (by intro h'; cases h')
  · have h1 : semOf (some (b, s, k, o)) = semOf none := congrArg (fun x : GSem nD τ sig × ℕ × Duty => x.1.2) h
    exact absurd (semOf_inj h1) (by intro h'; cases h')
  · have h3 : (b, s, k, o) = (b', s', k', o') := Option.some.inj (semOf_inj (congrArg (fun x : GSem nD τ sig × ℕ × Duty => x.1.2) h))
    cases h3
    have h1 : (if b then peer s k c o else c) = (if b then peer s k c' o else c') := congrArg (fun x : GSem nD τ sig × ℕ × Duty => x.1.1.1) h
    cases b
    · have h2 : c = c' := h1
      rw [h2]
    · have h2 : peer s k c o = peer s k c' o := h1
      have h4 : c = c' := by rw [← peer_rev s k c o, h2, peer_rev]
      rw [h4]
def hierToks : Finset (GSem nD τ sig × ℕ × Duty) := Finset.univ.map ⟨_, payAt_injective⟩

/-- The payments of a device, as tokens. -/
def toks (c : Dev nD) : sProp 𝕄 :=
  iprop((bigSep Finset.univ fun d : Duty => dutyTok ER (cellAt (tgt (.inl d) c) none) 0 d)
    ∗ (bigSep Finset.univ fun t : T3 => dutyTok ER (cellAt c (some (false, t))) 0 (0, false))
    ∗ bigSep Finset.univ fun t : T3 => dutyTok ER (cellAt (peer t.1 t.2.1 c t.2.2) (some (true, t))) 0 (0, false))

theorem toks_eq : bigSep hierToks (fun x => (dutyTok ER x.1 x.2.1 x.2.2 : sProp 𝕄)) = bigSep Finset.univ fun c : Dev nD => toks c := by
  unfold hierToks; rw [bigSep_map, bigSep_univ_prod]
  refine bigSep_congr fun c _ => ?_
  rw [bigSep_univ_sum, sep_xi]; rfl

/-- The places of a device at its own semaphores. -/
def places (c : Dev nD) : sProp 𝕄 := bigSep Finset.univ fun x : CI => atPos ER (cellAt c x) 0 ∅ 0

theorem bt_intro (c : Dev nD) : (bigSep Finset.univ fun d : Duty => (dutyTok ER (cellAt (tgt (.inl d) c) none) 0 d : sProp 𝕄)) ⊢ bt c := by
  rw [sep_duty]; unfold bt tri
  iintro ⟨H0, H1, H2, H3, H4, H5⟩
  isplitl [H0 H2 H4]
  · isplitl [H0]; · iexact H0
    isplitl [H2]; · iexact H2
    iexact H4
  · isplitl [H1]; · iexact H1
    isplitl [H3]; · iexact H3
    iexact H5

theorem rights_intro (c : Dev nD) :
    iprop(places c ∗ toks c ∗ cred (tallyAt (cellAt c none) () 6) ∗ landCreds c) ⊢ rights (F := F) c := by
  have hT : oct (fun s h => tk3 (F := F) s h c) = bigSep Finset.univ fun t : T3 => tk (F := F) t.1 t.2.1 t.2.2 c := (sep_t3 fun t : T3 => tk (F := F) t.1 t.2.1 t.2.2 c).symm
  have hC : oct (fun s h => cw3 (F := F) true s h c) = bigSep Finset.univ fun t : T3 => cw (F := F) (true, t) c := (sep_t3 fun t : T3 => cw (F := F) (true, t) c).symm
  have e : rights (F := F) c = iprop(bt c ∗ bw c ∗ (oct fun s h => tk3 (F := F) s h c) ∗ oct fun s h => cw3 (F := F) true s h c) := rfl
  rw [e, hT, hC]
  unfold places toks bw landCreds
  rw [sep_ci, sep_xi]
  unfold tk cw
  rw [bigSep_sep', bigSep_sep', bigSep_sep']
  iintro ⟨⟨Ha, HaS, HaR⟩, ⟨Hb, Hs, Hr⟩, Hc, HL⟩
  isplitl [Hb]; · iapply (bt_intro (F := F) c); iexact Hb
  isplitl [Ha Hc]
  · isplitl [Hc]; · iexact Hc
    iexact Ha
  isplitl [Hs Hr HaS]
  · isplitl [Hs]; · iexact Hs
    isplitl [Hr]; · iexact Hr
    iexact HaS
  isplitl [HL]; · iexact HL
  iexact HaR

/-! ## The semaphores -/

/-- The semaphores of the copies. -/
abbrev osem : XI → SemLoc sig := fun x => semOf (some x)
theorem ownSemFacts : Pipeline.OwnSemFacts cfg0.spec osem where
  isScoped := by decide +kernel
  inj := fun x y h => Option.some.inj (semOf_inj h)
  disj := by decide +kernel

theorem unscopedSems0_eq (c : Dev nD) : (unscopedSems0 c : sProp 𝕄) = semVal (cellAt c none) 0 := by
  unfold unscopedSems0; rw [bigSep_eq_bigSepL_of_eq [SemLoc.reg barS] (by decide +kernel) (by decide)]; rfl

theorem zeros_exit (c : Dev nD) :
    zeros (F := F) c ⊢ iprop(unscopedSems0 c ∗ Pipeline.ownSems0 (Ix := Unit) (Name := ℕ) (U := UU) (Lvl := ℕ) (Val := Elt F) (τ := τ) osem c) := by
  have hF : oct (fun s h => zv3 (F := F) false s h c) = bigSep Finset.univ fun t : T3 => zv (F := F) (false, t) c := (sep_t3 fun t : T3 => zv (F := F) (false, t) c).symm
  have hT : oct (fun s h => zv3 (F := F) true s h c) = bigSep Finset.univ fun t : T3 => zv (F := F) (true, t) c := (sep_t3 fun t : T3 => zv (F := F) (true, t) c).symm
  have e : zeros (F := F) c = iprop(semVal (cellAt c none) 0 ∗ (oct fun s h => zv3 (F := F) false s h c) ∗ oct fun s h => zv3 (F := F) true s h c) := rfl
  rw [e, hF, hT, unscopedSems0_eq]
  unfold Pipeline.ownSems0
  rw [sep_xi]
  exact Entails.of_eq rfl

/-! ## The launch's element, and what it becomes -/

variable (A : Dev nD → Vec F S1024x1024 .f32)

/-- What the launch's element hands to a device. -/
def G (c : Dev nD) : sProp 𝕄 :=
  iprop((bigSep Finset.univ fun x : CI => roundState ER (Rd A) (cellAt c x) 0)
    ∗ (bigSep Finset.univ fun x : CI => iprop(atPos ER (cellAt c x) 0 ∅ 0 ∗ reached ER (cellAt c x) 0)) ∗ toks c)

theorem fund_hier : BI.own (ER (initOf hierCells hierToks)) ⊢ (|==> bigSep Finset.univ (G A) : sProp 𝕄) := by
  have hX (Φ : GSem nD τ sig → sProp 𝕄) : bigSep hierCells Φ = bigSep Finset.univ fun c : Dev nD => bigSep Finset.univ fun x : CI => Φ (cellAt c x) := by
    unfold hierCells; rw [bigSep_map, bigSep_univ_prod]; rfl
  iintro HX
  imod (Rounds.fund ER (Rd A) hierCells hierToks) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [bigSep_sep']
  isplitl [Hst]; · iexact Hst
  isplitl [Hat Hr]
  · isplitl [Hat] <;> iassumption
  iexact Htok

/-- The semaphores' invariants and that each has reached its round. -/
def known (K : Dev nD × CI → ℕ) : sProp 𝕄 :=
  iprop((bigSep Finset.univ fun x : Dev nD × CI => cellInv ER (Rd A) (K x) (cellAt x.1 x.2))
    ∗ bigSep Finset.univ fun x : Dev nD × CI => reached ER (cellAt x.1 x.2) 0)
instance known_persistent (K : Dev nD × CI → ℕ) : BI.Persistent (known A K) := by unfold known; infer_instance

/-- What a device has after the launch's common step. -/
def G' (c : Dev nD) : sProp 𝕄 := iprop(∃ K, known A K ∗ places c ∗ toks c)

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun x : CI => iprop(∃ κ : ℕ, cellInv ER (Rd A) κ (cellAt c x)))
          ∗ (bigSep Finset.univ fun x : CI => iprop(atPos ER (cellAt c x) 0 ∅ 0 ∗ reached ER (cellAt c x) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun x : CI => semVal (cellAt c x) 0 : sProp 𝕄) := by
    rw [unscopedSems0_eq, sep_ci]
    unfold Pipeline.ownSems0
    iintro ⟨H1, H2⟩
    isplitl [H2] <;> iassumption
  unfold G
  iintro ⟨Hos, Hus, Hst, Hat, Htok⟩
  ihave Hv := hv $$ [Hos Hus]
  · isplitl [Hos] <;> iassumption
  imod (show iprop((bigSep Finset.univ fun x : CI => semVal (cellAt c x) 0) ∗ bigSep Finset.univ fun x : CI => roundState ER (Rd A) (cellAt c x) 0)
      ⊢ (|={Set.univ}=> bigSep Finset.univ fun x : CI => iprop(∃ κ : ℕ, cellInv ER (Rd A) κ (cellAt c x)) : sProp 𝕄) from by
        rw [← bigSep_sep']
        exact (bigSep_mono fun x _ => (Rounds.body_intro ER (Rd A) (cellAt c x)).trans inv_alloc).trans (bigSep_fupd _ _)) $$ [Hv Hst] with Hinv
  · isplitl [Hv] <;> iassumption
  imodintro
  isplitl [Hinv]; · iexact Hinv
  isplitl [Hat]; · iexact Hat
  iexact Htok

theorem sep_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CI => iprop(∃ κ : ℕ, cellInv ER (Rd A) κ (cellAt c x)))
          ∗ (bigSep Finset.univ fun x : CI => iprop(atPos ER (cellAt c x) 0 ∅ 0 ∗ reached ER (cellAt c x) 0)) ∗ toks c) : sProp 𝕄)
      ⊢ bigSep Finset.univ (G' A) := by
  rw [bigSep_sep', bigSep_sep', ← bigSep_univ_prod (fun x : Dev nD × CI => iprop(∃ κ : ℕ, cellInv ER (Rd A) κ (cellAt x.1 x.2))),
    bigSep_congr (s := Finset.univ) (fun (c : Dev nD) _ => bigSep_sep' Finset.univ (fun x : CI => (atPos ER (cellAt c x) 0 ∅ 0 : sProp 𝕄)) (fun x => reached ER (cellAt c x) 0)),
    bigSep_sep', ← bigSep_univ_prod (fun x : Dev nD × CI => (reached ER (cellAt x.1 x.2) 0 : sProp 𝕄))]
  iintro ⟨HI, ⟨Hat, #HR⟩, Htok⟩
  ihave HK := (BI.bigSep_exists_pi Finset.univ (fun (x : Dev nD × CI) (κ : ℕ) => (cellInv ER (Rd A) κ (cellAt x.1 x.2) : sProp 𝕄))) $$ HI
  icases HK with ⟨%K, #HI⟩
  iapply (sep_known (R := known A K) (Φ := fun c => iprop(places c ∗ toks c)) fun c _ => show iprop(known A K ∗ places c ∗ toks c) ⊢ G' A c from by
    unfold G'; iintro H; iexists K; iexact H)
  isplitr
  · unfold known; isplitl; · iexact HI
    iexact HR
  · iapply (Entails.of_eq (bigSep_sep' Finset.univ (fun c : Dev nD => (places c : sProp 𝕄)) toks).symm)
    isplitl [Hat]; · iexact Hat
    iexact Htok

/-- The common step of the launch. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

end Cert.Hier

end
-- ==== Proof.Run.lean ====
/-
The run of the whole program on all devices, from the body's proof and the launch.
-/
module

public import proofs.«01_k».proof.Proof.Launch
public import Idealize.ShloMosaic.Adequacy
public import Idealize.ShloMosaic.Init

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 40000

variable (m : (ℓ : Loc nD τ sig) → Buf (Elt F) ℓ) (ρ : Dev nD → PrngReg)

def s₀ : MemSt nD τ sig (Elt F) := ⟨m, fun _ => 0, ρ⟩

/-- The blocks that the pipeline brings in. -/
def xstg (c : Dev nD) : Vec F S1024x64 .f32 := (win0_0.blk (0 : Fin 1)).view.read (Elt F) (m ((c : Thread nD τ).loc main_arg0))
def wstg (c : Dev nD) : Vec F S64x1024 .f32 := (win0_1.blk (0 : Fin 1)).view.read (Elt F) (m ((c : Thread nD τ).loc main_arg1))

/-- The partial products of the devices, and the result. -/
abbrev parts : Dev nD → Vec F S1024x1024 .f32 := part (xstg m) (wstg m)
abbrev res : Vec F S1024x1024 .f32 := result (xstg m) (wstg m)

/-- What a device starts the kernel with. -/
def start (c : Dev nD) : sProp 𝕄 := iprop(∃ K, recs (parts m) K ∗ rights c)
def Φ₀ (c : Dev nD) : sProp 𝕄 := iprop(start m c ∗ (some0 c ∗ some1 c ∗ some2 c ∗ some3 c))
def Φ₁ (c : Dev nD) : sProp 𝕄 := iprop(zeros c ∗ (some0 c ∗ some1 c ∗ some2 c ∗ some3 c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => res m
  Φ t := match t with
    | ⟨0, _⟩ => Φ₀ m c
    | ⟨_ + 1, _⟩ => Φ₁ c
  q _ := fullShare
  owed t := match t with
    | ⟨0, _⟩ => debt lAll c
    | ⟨_ + 1, _⟩ => 0

theorem sep_win (Φ : Fin cfg0.W → sProp 𝕄) : bigSep Finset.univ Φ = iprop(Φ (0 : Fin 3) ∗ Φ (1 : Fin 3) ∗ Φ (2 : Fin 3)) := bigSep_W0 Φ

theorem fetched0 : (cfg0.win (0 : Fin 3)).fetch t0_0 = true := by decide +kernel
theorem fetched1 : (cfg0.win (1 : Fin 3)).fetch t0_0 = true := by decide +kernel

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop(Φ₀ m c ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def pointPost (c : Dev nD) : sProp 𝕄 :=
  iprop(Φ₁ c ∗ (dats m 0 c).owesAt () (t0_0 : Fin cfg0.N).succ
    ∗ stg c cc0_stg0_0 (xstg m c) ∗ stg c cc0_stg1_0 (wstg m c) ∗ stg c cc0_stg2_0 (res m))

theorem before0 (c : Dev nD) (d) : (dats m 0 c).before (0 : Fin 3) t0_0 d = xstg m c := by
  unfold Dat.before; rw [if_pos fetched0]; rfl
theorem before1 (c : Dev nD) (d) : (dats m 0 c).before (1 : Fin 3) t0_0 d = wstg m c := by
  unfold Dat.before; rw [if_pos fetched1]; rfl

theorem owes_in (c : Dev nD) : (dats m 0 c).owesAt () (t0_0 : Fin cfg0.N).castSucc ⊢ ow (F := F) c lAll := by
  unfold Dat.owesAt Pipeline.owesWithin ow
  iintro ⟨%W, %hW, HO⟩
  iexists W; iexact HO
theorem owes_out (c : Dev nD) : ow (F := F) c [] ⊢ (dats m 0 c).owesAt () (t0_0 : Fin cfg0.N).succ := by
  unfold Dat.owesAt Pipeline.owesWithin ow
  iintro ⟨%W, HO⟩
  iexists W; isplitr
  · ipureintro; exact fun _ _ => Or.inl trivial
  · iexact HO

theorem point_in (c : Dev nD) : pointPre m c ⊢ iprop(∃ K, bodyPre (xstg m) (wstg m) K c) := by
  unfold pointPre Φ₀ start bodyPre
  iintro ⟨⟨⟨%K, HR, Hr⟩, Hs⟩, Ho, ⟨%d0, %f0, %e0, H0⟩, ⟨%d1, %f1, %e1, H1⟩, %d2, %f2, -, H2⟩
  rw [before0] at e0; rw [before1] at e1
  subst e0 e1
  iexists K
  isplitl [HR]; · iexact HR
  isplitl [Hr]; · iexact Hr
  isplitl [Ho]; · iapply (owes_in m c); iexact Ho
  isplitl [Hs]; · iexact Hs
  isplitl [H0]; · iexact H0
  isplitl [H1]; · iexact H1
  iexists f2; iexact H2

theorem point_out (c : Dev nD) : bodyPost (xstg m) (wstg m) c ⊢ pointPost m c := by
  unfold pointPost Φ₁ bodyPost
  iintro ⟨Hz, Ho, Hs, H0, H1, H2⟩
  isplitl [Hz Hs]
  · isplitl [Hz]; · iexact Hz
    iexact Hs
  isplitl [Ho]; · iapply (owes_out m c); iexact Ho
  isplitl [H0]
  · iexists _; isplitr; · (ipureintro; rfl)
    iexact H0
  isplitl [H1]
  · iexists _; isplitr; · (ipureintro; rfl)
    iexact H1
  · iexists _; isplitr; · (ipureintro; rfl)
    iexact H2

theorem body_obligation (c : Dev nD) : BodyObligation (dats (F := F) m 0 c) (defs₀ (F := F)) 𝒱₀ () Set.univ := fun t => by
  rw [show t = t0_0 from fin_N0 t]
  rw [sep_win, sep_win]
  simp only [owns_whole_eq]
  show pointPre m c ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19) (fun _ => pointPost m c)
  refine (point_in m c).trans ?_
  iintro ⟨%K, H⟩
  iapply (sound_body (xstg m) (wstg m) K c fun _ => pointPost m c)
  isplitl [H]; · iexact H
  iintro H
  iapply (point_out m c); iexact H

/-! ## The launch's side conditions -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf hierCells hierToks)

theorem start_intro (c : Dev nD) :
    iprop(Pipeline.unscopedRestP Pipeline.Prefetch.none cfg0.spec c (fun b => m ((c : Thread nD τ).loc b)) ∗ levAts L lv
        ∗ Pipeline.launchCred (debt lAll) c ∗ prngReg c (ρ c) ∗ G' (parts m) c)
      ⊢ |={Set.univ}=> iprop(start m c ∗ emp) := by
  unfold G' start known recs
  iintro ⟨-, Hlev, Hcr, -, %K, ⟨HI, Hr⟩, Hp, Ht⟩
  ihave Hc := (creds (F := F) c) $$ Hcr
  icases Hc with ⟨H1, HN⟩
  imodintro
  isplitl
  · iexists K
    isplitl [HI Hr Hlev]
    · isplitl [HI]; · iexact HI
      isplitl [Hr]; · iexact Hr
      iexact Hlev
    iapply (rights_intro (F := F) c)
    isplitl [Hp]; · iexact Hp
    isplitl [Ht]; · iexact Ht
    isplitl [H1]; · iexact H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ some0 some1 some2 some3
  iintro ⟨Hs, -, H⟩
  isplitl [Hs]; · iexact Hs
  iexact H

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ some0 some1 some2 some3
  iintro ⟨Hz, H⟩
  ihave Hz := (zeros_exit (F := F) c) $$ Hz
  icases Hz with ⟨H1, H2⟩
  isplitl [H1]; · iexact H1
  isplitl [H2]; · iexact H2
  iexact H

theorem lev_pos : ∀ i ∈ lAll, 0 < lev (some (pci i)) := by decide
theorem lev_stage : ∀ (w : Fin cfg0.W) (s : Fin (cfg0.win w).nbuf), lev (ciOf (.dma ((cfg0.win w).sem s))) = 0 := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_debt c _ lAll fun i hi => by rw [lev_stage w s]; exact lev_pos i hi
    · exact mayWait_debt c _ [] fun i hi => absurd hi (List.not_mem_nil)

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

/-- From any memory with all counters at zero, every fair run of the program on the sixteen devices ends, with the
    arrays at the computed contents and all counters at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := debt lAll) (howed₀ := fun _ => rfl) (howedN := fun _ => rfl)
    (L := L) (lv := lv) (hL := L_of_ne) (hwaits := waits m)
    (G := G (parts m)) (G' := G' (parts m)) (u₀ := u₀)
    (hu₀ := by
      unfold u₀
      iintro Hu
      ihave H := (ownU_pair _ _) $$ Hu
      icases H with ⟨HP, HX⟩
      imod (fund_hier (parts m)) $$ HX with HG
      imodintro
      isplitl [HP] <;> iassumption)
    (hglob := glob (parts m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

theorem final_x (c : Dev nD) : (dats m 0 c).arrAt (0 : Fin 3) cfg0.N = m ((c : Thread nD τ).loc main_arg0) :=
  (dats (F := F) m 0 c).arrAt_in (0 : Fin 3) rfl _
theorem final_w (c : Dev nD) : (dats m 0 c).arrAt (1 : Fin 3) cfg0.N = m ((c : Thread nD τ).loc main_arg1) :=
  (dats (F := F) m 0 c).arrAt_in (1 : Fin 3) rfl _
theorem final_o (c : Dev nD) : (win0_2.blk (0 : Fin 1)).view.read (Elt F) ((dats m 0 c).arrAt (2 : Fin 3) cfg0.N) = res m := by
  rw [show cfg0.N = ((0 : Fin 1) : Fin cfg0.N).val + 1 from rfl, (dats m 0 c).arrAt_succ (2 : Fin 3) (0 : Fin 1)]
  rw [show (cfg0.win (2 : Fin 3)).flush (0 : Fin 1) = true from by decide +kernel, if_pos rfl]
  exact View.read_write_univ _ _

end Cert.Hier

end
-- ==== Proof.Ref.lean ====
/-
The run of the reference: the product of the whole matrices, and its maximum with zero.
-/
module

public import proofs.«01_k».proof.Proof.Gen.ReferenceIdeal
public import Idealize.ShloMosaic.Lib.StableHlo.Run
public import Idealize.ShloMosaic.Lib.Quiescent

@[expose] public section

noncomputable section

namespace Cert.HierRef

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its arguments. -/
def refOut (x w : FVec F S1024x1024 .f32) : FVec F S1024x1024 .f32 :=
  maximumf (Host.dotGeneral dot_S1024x1024_S1024x1024_S1024x1024_1_0_0_1_n_n none x w)
    (broadcastInDim S1024x1024 ![] bcast_S_S1024x1024 (constant S_ .f32 0x00000000#32))

/-- The program's operations, in order. -/
abbrev ops : List (HloOp τ sig (Elt F)) :=
  [ binary main_arg0 main_arg1 main_v0 (fun l r => Host.dotGeneral dot_S1024x1024_S1024x1024_S1024x1024_1_0_0_1_n_n none l r),
    nullary main_cst (constant S_ .f32 0x00000000#32),
    unary main_cst main_v1 (broadcastInDim S1024x1024 ![] bcast_S_S1024x1024),
    binary main_v0 main_v1 main_v2 maximumf ]

theorem main_eq (c : Dev nD) : main (F := F) c = seq ops := rfl

theorem out_eq (V : Valuation τ sig (Elt F)) :
    after ops V (main_v2 : DevRef τ sig) = refOut (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v2).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.HierRef

end
-- ==== Proof.Claims.lean ====
/-
The claims that need no values: each program runs to its end, hands its arguments back and leaves every semaphore at
zero.
-/
module

public import proofs.«01_k».proof.Defs
public import proofs.«01_k».proof.Proof.Run
public import proofs.«01_k».proof.Proof.Ref
public import proofs.«01_k».proof.Proof.Gen.Kernel

@[expose] public section

set_option maxRecDepth 40000

noncomputable section

namespace Cert.Hier

open Idealize.ShloMosaic Idealize.SL.Sem

/-- The run over any numbers: the arguments are handed back, and every semaphore ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (final_x m c), (h.1 c (1 : Fin 3)).trans (final_w m c)⟩, h.2⟩)
    (run_main m ρ)

/-- The kernel over the extended reals. -/
theorem frame_ideal : Cert.quiescent_KernelIdeal := fun m ρ _ => frame_any (F := Ideal) m ρ

/-- The two programs have the same bodies. -/
theorem defs₀_eq {F : FTy → Type} [FloatOps F] [Cert.Kernel.Facts] [Cert.KernelIdeal.Facts] :
    Cert.Kernel.defs₀ (F := F) = Cert.KernelIdeal.defs₀ (F := F) := by
  unfold Cert.Kernel.defs₀ Cert.KernelIdeal.defs₀
  congr 1
  funext l a
  match l, a with
  | 0, (t, s) => rfl

/-- The kernel over the machine's words: the same text, so the same run. -/
theorem frame_kernel : Cert.quiescent_Kernel := by
  intro m ρ _
  have h := frame_any (F := Bits) m ρ
  unfold Cert.KernelIdeal.defs at h
  rw [← defs₀_eq] at h
  exact h

/-- The reference. -/
theorem frame_ref : Cert.quiescent_ReferenceIdeal := fun m ρ _ =>
  (θ_run Cert.ReferenceIdeal.defs _ _).mono
    (fun _ h => ⟨fun c => (h.1 c).2, h.2⟩) (Cert.HierRef.run_main (F := Ideal) m ρ)

/-- The kernel and its form over the extended reals differ in nothing but the numbers. -/
theorem preserves : Cert.preserves_Kernel_KernelIdeal := trivial

end Cert.Hier

end
-- ==== Proof.Values.lean ====
/-
What the devices end with, over the extended reals: the reduced matrix is the sum of the sixteen partial products, and
that sum is the product of the whole matrices.
-/
module

public import proofs.«01_k».proof.Proof.Claims
public import Idealize.ShloMosaic.Lib.ValueIdx
public import Idealize.ShloMosaic.Lib.MatmulPlain
public import Idealize.ShloMosaic.Lib.Layout

@[expose] public section

set_option maxRecDepth 40000

noncomputable section

namespace Cert.Hier

open Cert.KernelIdeal Cert.KernelIdeal.Gen
open Idealize.ShloMosaic Idealize.ShloMosaic.TcCoe Idealize.ShloMosaic.ValueIdx Idealize.SL.Sem
open scoped BigOperators

/-! ## The reductions -/

theorem pay6_sum (v : Vec Ideal S4x256x640 .f32) (i : S256x640.Idx) : k0_pay6 v i = ∑ s : Fin 4, v (ix3 s (i 0) (i 1)) := by
  refine (Ideal.multiReduction_add_single v 0x00000000#32 reduces_S4x256x640_S256x640 (.inl rfl) rfl i).trans (Finset.sum_congr rfl fun s _ => congrArg v ?_)
  funext a
  match a with
  | ⟨0, _⟩ => rfl
  | ⟨1, _⟩ => rfl
  | ⟨2, _⟩ => rfl

theorem pay8_sum (v : Vec Ideal S4x256x384 .f32) (i : S256x384.Idx) : k0_pay8 v i = ∑ s : Fin 4, v (ix3 s (i 0) (i 1)) := by
  refine (Ideal.multiReduction_add_single v 0x00000000#32 reduces_S4x256x384_S256x384 (.inl rfl) rfl i).trans (Finset.sum_congr rfl fun s _ => congrArg v ?_)
  funext a
  match a with
  | ⟨0, _⟩ => rfl
  | ⟨1, _⟩ => rfl
  | ⟨2, _⟩ => rfl

theorem pay10_sum (v : Vec Ideal S4x64x640 .f32) (i : S64x640.Idx) : k0_pay10 v i = ∑ s : Fin 4, v (ix3 s (i 0) (i 1)) := by
  refine (Ideal.multiReduction_add_single v 0x00000000#32 reduces_S4x64x640_S64x640 (.inl rfl) rfl i).trans (Finset.sum_congr rfl fun s _ => congrArg v ?_)
  funext a
  match a with
  | ⟨0, _⟩ => rfl
  | ⟨1, _⟩ => rfl
  | ⟨2, _⟩ => rfl

theorem pay11_sum (v : Vec Ideal S4x64x384 .f32) (i : S64x384.Idx) : k0_pay11 v i = ∑ s : Fin 4, v (ix3 s (i 0) (i 1)) := by
  refine (Ideal.multiReduction_add_single v 0x00000000#32 reduces_S4x64x384_S64x384 (.inl rfl) rfl i).trans (Finset.sum_congr rfl fun s _ => congrArg v ?_)
  funext a
  match a with
  | ⟨0, _⟩ => rfl
  | ⟨1, _⟩ => rfl
  | ⟨2, _⟩ => rfl

variable (A : Dev nD → Vec Ideal S1024x1024 .f32)

theorem B0_sum (c : Dev nD) (i : S256x640.Idx) :
    B0 A c i = ∑ s : Fin 4, at1024 (A (od 0 s (ic 0 c))) (256 * (oc 0 c).val + (i 0).val) (i 1).val := pay6_sum _ i
theorem B1_sum (c : Dev nD) (i : S256x384.Idx) :
    B1 A c i = ∑ s : Fin 4, at1024 (A (od 1 s (ic 1 c))) (256 * (oc 1 c).val + (i 0).val) (640 + (i 1).val) := pay8_sum _ i
theorem C0_sum (c : Dev nD) (i : S64x640.Idx) :
    C0 A c i = ∑ s : Fin 4, at256a (B0 A (od 0 (oc 0 c) s)) (64 * (ic 0 c).val + (i 0).val) (i 1).val := pay10_sum _ i
theorem C1_sum (c : Dev nD) (i : S64x384.Idx) :
    C1 A c i = ∑ s : Fin 4, at256b (B1 A (od 1 (oc 1 c) s)) (64 * (ic 1 c).val + (i 0).val) (i 1).val := pay11_sum _ i

/-- The devices are the pairs of an inner and an outer coordinate. -/
def pairs (h : Fin 2) : Fin 4 × Fin 4 ≃ Dev nD where
  toFun x := od h x.2 x.1
  invFun c := (ic h c, oc h c)
  left_inv x := Prod.ext (ic_od h x.2 x.1) (oc_od h x.2 x.1)
  right_inv c := od_eta h c

theorem sum_pairs (h : Fin 2) (f : Dev nD → Ideal .f32) : ∑ k : Fin 4, ∑ q : Fin 4, f (od h q k) = ∑ c : Dev nD, f c :=
  (Fintype.sum_prod_type (fun x : Fin 4 × Fin 4 => f (od h x.2 x.1))).symm.trans (Equiv.sum_comp (pairs h) f)

/-- The reduced matrix is the sum of the partial products. -/
theorem fin_sum (i : S1024x1024.Idx) : fin A i = ∑ c : Dev nD, A c i := by
  have hr : (i 0).val < 1024 := idx2_lt0 i
  have hj : (i 1).val < 1024 := idx2_lt1 i
  by_cases hc : (i 1).val < 640
  · refine (if_pos hc).trans ?_
    rw [← sum_pairs 0]
    refine (C0_sum A _ _).trans (Finset.sum_congr rfl fun k _ => ?_)
    refine (B0_sum A _ _).trans (Finset.sum_congr rfl fun q _ => ?_)
    rw [ic_od, oc_od, oc_od, ic_od]
    refine congrArg (A (od 0 q k)) (mk2_eq ?_ ?_)
    · show (i 0).val = (256 * ((i 0).val / 256 % 4) + (64 * ((i 0).val % 256 / 64 % 4) + (i 0).val % 64 % 64) % 256) % 1024
      omega
    · show (i 1).val = (i 1).val % 640 % 640 % 1024
      omega
  · refine (if_neg hc).trans ?_
    rw [← sum_pairs 1]
    refine (C1_sum A _ _).trans (Finset.sum_congr rfl fun k _ => ?_)
    refine (B1_sum A _ _).trans (Finset.sum_congr rfl fun q _ => ?_)
    rw [ic_od, oc_od, oc_od, ic_od]
    refine congrArg (A (od 1 q k)) (mk2_eq ?_ ?_)
    · show (i 0).val = (256 * ((i 0).val / 256 % 4) + (64 * ((i 0).val % 256 / 64 % 4) + (i 0).val % 64 % 64) % 256) % 1024
      omega
    · show (i 1).val = (640 + ((i 1).val - 640) % 384 % 384) % 1024
      omega

/-! ## The products -/

/-- A cast to the same shape changes nothing. -/
theorem cast_self {s : Shape} (v : Vec Ideal s .f32) (h : s.ShapeCasts s) : shapeCast s v h = v := by
  funext i
  exact congrArg v (Shape.reshapeEquiv_self h i)

/-- A product onto zeros, read at an index. -/
theorem plain_sum {K : ℕ} (a : FVec Ideal ⟨2, ![1024, K]⟩ .f32) (b : FVec Ideal ⟨2, ![K, 1024]⟩ .f32) (i : S1024x1024.Idx) :
    FloatOps.matmul (DotDims.plain 1024 K 1024) none a b (constant S1024x1024 .f32 0x00000000#32) i
      = ∑ t : Fin K, a (ix2 (i 0) t) * b (ix2 t (i 1)) := by
  have h (r c : Fin 1024) : FloatOps.matmul (DotDims.plain 1024 K 1024) none a b (constant S1024x1024 .f32 0x00000000#32) (ix2 r c)
      = ∑ t : Fin K, a (ix2 r t) * b (ix2 t c) := by
    have hz : (constant S1024x1024 .f32 0x00000000#32 : FVec Ideal S1024x1024 .f32) (ix2 r c) = 0 := Ideal.ofBits_zero_f32
    rw [Ideal.matmul_plain_apply, hz, zero_add]
  exact (congrArg (FloatOps.matmul (DotDims.plain 1024 K 1024) none a b (constant S1024x1024 .f32 0x00000000#32)) (eq_ix2 i)).trans (h (i 0) (i 1))

/-- A device's partial product. -/
theorem part_sum (X : Dev nD → Vec Ideal S1024x64 .f32) (Y : Dev nD → Vec Ideal S64x1024 .f32) (c : Dev nD) (i : S1024x1024.Idx) :
    part X Y c i = ∑ t : Fin 64, X c (ix2 (i 0) t) * Y c (ix2 t (i 1)) := by
  have e1 : k0_pay2 (X c) = X c := cast_self _ _
  have e2 : shapeCast S64x1024 (Y c) shapeCasts_S64x1024_S64x1024 = Y c := cast_self _ _
  refine Eq.trans ?_ (plain_sum (K := 64) (X c) (Y c) i)
  show FloatOps.matmul (DotDims.plain 1024 64 1024) none (k0_pay2 (X c)) (shapeCast S64x1024 (Y c) shapeCasts_S64x1024_S64x1024) _ i = _
  rw [e1, e2]

/-- The whole product. -/
theorem ref_sum (x w : FVec Ideal S1024x1024 .f32) (i : S1024x1024.Idx) :
    Host.dotGeneral Cert.ReferenceIdeal.dot_S1024x1024_S1024x1024_S1024x1024_1_0_0_1_n_n none x w i
      = ∑ t : Fin 1024, x (ix2 (i 0) t) * w (ix2 t (i 1)) := by
  refine Eq.trans ?_ (plain_sum (K := 1024) x w i)
  refine (Ideal.dotGeneral_apply _ _ _ _ _ _).trans ?_
  exact (Ideal.matmul_constant_zero_apply (DotDims.plain 1024 1024 1024) none x w i).symm

/-- A sum over 1024 places as sixteen sums over 64. -/
theorem sum_blocks (f : Fin 1024 → Ideal .f32) :
    ∑ c : Dev nD, ∑ t : Fin 64, f ⟨64 * c.val + t.val, by have := c.isLt; have := t.isLt; show _ < 1024; have h : c.val < 16 := c.isLt; omega⟩ = ∑ k : Fin 1024, f k := by
  rw [← Equiv.sum_comp (finProdFinEquiv (m := 16) (n := 64)) (f : Fin (16 * 64) → Ideal .f32), Fintype.sum_prod_type]
  refine Finset.sum_congr rfl fun c _ => Finset.sum_congr rfl fun t _ => congrArg f (Fin.ext ?_)
  show 64 * c.val + t.val = t.val + 64 * c.val
  omega

/-- The result of the kernel is the reference's. -/
theorem result_eq (X : Dev nD → Vec Ideal S1024x64 .f32) (Y : Dev nD → Vec Ideal S64x1024 .f32) (x w : FVec Ideal S1024x1024 .f32)
    (hX : ∀ c : Dev nD, X c = Layout.block ⟨2, ![1024, 64]⟩ ⟨2, ![1024, 1024]⟩ 1 16 c x)
    (hY : ∀ c : Dev nD, Y c = Layout.block ⟨2, ![64, 1024]⟩ ⟨2, ![1024, 1024]⟩ 0 16 c w) :
    result X Y = Cert.HierRef.refOut x w := by
  funext i
  have e : fin (part X Y) i = Host.dotGeneral Cert.ReferenceIdeal.dot_S1024x1024_S1024x1024_S1024x1024_1_0_0_1_n_n none x w i := by
    rw [fin_sum, ref_sum, ← sum_blocks]
    refine Finset.sum_congr rfl fun c _ => (part_sum X Y c i).trans (Finset.sum_congr rfl fun t _ => ?_)
    rw [hX, hY]
    refine congrArg₂ (· * ·) (congrArg x (idx_ext2 ?_ ?_)) (congrArg w (idx_ext2 ?_ ?_))
    · exact (Layout.idx_cols_val _ c _).1
    · refine (Layout.idx_cols_val _ c _).2.trans ?_
      show c.val * 64 + t.val = 64 * c.val + t.val
      omega
    · refine (Layout.idx_rows_val _ c _).1.trans ?_
      show c.val * 64 + t.val = 64 * c.val + t.val
      omega
    · exact (Layout.idx_rows_val _ c _).2
  have e1 : shapeCast S1024x1024 (finV (part X Y)) shapeCasts_S1024x1024_S1024x1024 = finV (part X Y) := cast_self _ _
  show max (shapeCast S1024x1024 (finV (part X Y)) shapeCasts_S1024x1024_S1024x1024 i) (Scalar.ofBits .f32 0x00000000#32 : Ideal .f32) = max (Host.dotGeneral Cert.ReferenceIdeal.dot_S1024x1024_S1024x1024_S1024x1024_1_0_0_1_n_n none x w i) (Scalar.ofBits .f32 0x00000000#32 : Ideal .f32)
  rw [e1]
  exact congrArg (max · _) e

/-! ## The claim -/

/-- The windows' one block is the whole array. -/
theorem whole0 (f : main_arg0.ty.Contents (Elt Ideal)) : (win0_0.blk (0 : Fin 1)).view.read (Elt Ideal) f = f :=
  Memref.read_access_unit_zero (Elt Ideal) main_arg0 (funext fun a => by fin_cases a <;> decide) (fun a => by fin_cases a <;> decide) f
theorem whole1 (f : main_arg1.ty.Contents (Elt Ideal)) : (win0_1.blk (0 : Fin 1)).view.read (Elt Ideal) f = f :=
  Memref.read_access_unit_zero (Elt Ideal) main_arg1 (funext fun a => by fin_cases a <;> decide) (fun a => by fin_cases a <;> decide) f
theorem whole2 (f : main_v1.ty.Contents (Elt Ideal)) : (win0_2.blk (0 : Fin 1)).view.read (Elt Ideal) f = f :=
  Memref.read_access_unit_zero (Elt Ideal) main_v1 (funext fun a => by fin_cases a <;> decide) (fun a => by fin_cases a <;> decide) f

/-- Every device ends with the reference's result. -/
theorem algebraic : Cert.algebraic_KernelIdeal_ReferenceIdeal := by
  intro m ρ m' ρ' _ hagree
  refine ⟨Cert.HierRef.refOut (F := Ideal)
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨(h.1 c (2 : Fin 3)).trans ?_, (h.1 c (0 : Fin 3)).trans (final_x m c), (h.1 c (1 : Fin 3)).trans (final_w m c)⟩)
      (run_main (F := Ideal) m ρ)
    exact (whole2 _).symm.trans ((final_o m c).trans
      (result_eq _ _ _ _ (fun d => (whole0 _).trans (hagree d).1) (fun d => (whole1 _).trans (hagree d).2)))
  · exact (θ_run Cert.ReferenceIdeal.defs _ _).mono (fun _ h => h.1 0) (Cert.HierRef.run_main (F := Ideal) m' ρ')

end Cert.Hier

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Hier.frame_kernel, Cert.Hier.frame_ideal, Cert.Hier.frame_ref, Cert.Hier.preserves, Cert.Hier.algebraic⟩

end Cert.Proof

end
